-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8192x4096 : Shape := ⟨2, ![8192, 4096]⟩
abbrev S163x32x32 : Shape := ⟨3, ![163, 32, 32]⟩
abbrev S163 : Shape := ⟨1, ![163]⟩
abbrev S4096 : Shape := ⟨1, ![4096]⟩
abbrev S_ : Shape := ⟨0, ![]⟩

class Facts : Prop where
  bcast_S_S163 : S_.BroadcastsInDim S163 (![] : Fin 0 → Fin S163.rank)
  reducesTo_S163_S_d0 : S163.ReducesTo [0] S_
  h_S_ : 0 < S_.numel

variable [Facts]

def fn {F : FTy → Type} [FloatOps F] (main_arg0 : FVec F S8192x4096 .f32) (main_arg1 : FVec F S163x32x32 .f32) (main_arg2 : IVec S163 32) (main_arg3 : IVec S163 32) (main_arg4 : FVec F S4096 .f32) : IVec S_ 1 :=
  let main_c : IVec S_ 32 := constantI S_ 32 0#32
  let main_v0 : IVec S163 32 := broadcastInDim S163 ![] bcast_S_S163 main_c
  let main_v1 : IVec S163 1 := cmpi .sge main_arg2 main_v0
  let main_c_0 : IVec S_ 1 := constantI S_ 1 1#1
  let main_v2 : IVec S_ 1 := (fun x v => Host.reduce IntOp.andi x v reducesTo_S163_S_d0 h_S_) main_v1 main_c_0
  let main_c_1 : IVec S_ 32 := constantI S_ 32 128#32
  let main_v3 : IVec S163 32 := broadcastInDim S163 ![] bcast_S_S163 main_c_1
  let main_v4 : IVec S163 1 := cmpi .slt main_arg2 main_v3
  let main_c_2 : IVec S_ 1 := constantI S_ 1 1#1
  let main_v5 : IVec S_ 1 := (fun x v => Host.reduce IntOp.andi x v reducesTo_S163_S_d0 h_S_) main_v4 main_c_2
  let main_v6 : IVec S_ 1 := andi main_v2 main_v5
  let main_c_3 : IVec S_ 32 := constantI S_ 32 0#32
  let main_v7 : IVec S163 32 := broadcastInDim S163 ![] bcast_S_S163 main_c_3
  let main_v8 : IVec S163 1 := cmpi .sge main_arg3 main_v7
  let main_c_4 : IVec S_ 1 := constantI S_ 1 1#1
  let main_v9 : IVec S_ 1 := (fun x v => Host.reduce IntOp.andi x v reducesTo_S163_S_d0 h_S_) main_v8 main_c_4
  let main_v10 : IVec S_ 1 := andi main_v6 main_v9
  let main_c_5 : IVec S_ 32 := constantI S_ 32 128#32
  let main_v11 : IVec S163 32 := broadcastInDim S163 ![] bcast_S_S163 main_c_5
  let main_v12 : IVec S163 1 := cmpi .slt main_arg3 main_v11
  let main_c_6 : IVec S_ 1 := constantI S_ 1 1#1
  let main_v13 : IVec S_ 1 := (fun x v => Host.reduce IntOp.andi x v reducesTo_S163_S_d0 h_S_) main_v12 main_c_6
  let main_v14 : IVec S_ 1 := andi main_v10 main_v13
  main_v14
-- ==== Kernel.lean ====
abbrev S8192x4096 : Shape := ⟨2, ![8192, 4096]⟩
abbrev S163x32x32 : Shape := ⟨3, ![163, 32, 32]⟩
abbrev S163 : Shape := ⟨1, ![163]⟩
abbrev S4096 : Shape := ⟨1, ![4096]⟩
abbrev S_ : Shape := ⟨0, ![]⟩
abbrev S4 : Shape := ⟨1, ![4]⟩
abbrev S163x1 : Shape := ⟨2, ![163, 1]⟩
abbrev S1x4 : Shape := ⟨2, ![1, 4]⟩
abbrev S163x4 : Shape := ⟨2, ![163, 4]⟩
abbrev S163x1x32x1x32 : Shape := ⟨5, ![163, 1, 32, 1, 32]⟩
abbrev S163x4x1x1x1 : Shape := ⟨5, ![163, 4, 1, 1, 1]⟩
abbrev S163x4x32x1x32 : Shape := ⟨5, ![163, 4, 32, 1, 32]⟩
abbrev S163x1x1x4x1 : Shape := ⟨5, ![163, 1, 1, 4, 1]⟩
abbrev S163x4x32x4x32 : Shape := ⟨5, ![163, 4, 32, 4, 32]⟩
abbrev S163x128x128 : Shape := ⟨3, ![163, 128, 128]⟩
abbrev S1x4096 : Shape := ⟨2, ![1, 4096]⟩
abbrev S512x4096 : Shape := ⟨2, ![512, 4096]⟩
abbrev S1 : Shape := ⟨1, ![1]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 110
  | .vmem => 7
  | .smem => 2
  | _ => 0

abbrev bufTy : (tb : Table) → Fin (tcTables nBuf tb) → BufTy
  | .hbm, ⟨0, _⟩ => ⟨S8192x4096, .f32⟩
  | .hbm, ⟨1, _⟩ => ⟨S163x32x32, .f32⟩
  | .hbm, ⟨2, _⟩ => ⟨S163, .i32⟩
  | .hbm, ⟨3, _⟩ => ⟨S163, .i32⟩
  | .hbm, ⟨4, _⟩ => ⟨S4096, .f32⟩
  | .hbm, ⟨5, _⟩ => ⟨S_, .i32⟩
  | .hbm, ⟨6, _⟩ => ⟨S_, .i32⟩
  | .hbm, ⟨7, _⟩ => ⟨S163, .i32⟩
  | .hbm, ⟨8, _⟩ => ⟨S163, .i32⟩
  | .hbm, ⟨9, _⟩ => ⟨S163, .i32⟩
  | .hbm, ⟨10, _⟩ => ⟨S_, .i32⟩
  | .hbm, ⟨11, _⟩ => ⟨S163, .i32⟩
  | .hbm, ⟨12, _⟩ => ⟨S163, .i1⟩
  | .hbm, ⟨13, _⟩ => ⟨S163, .i32⟩
  | .hbm, ⟨14, _⟩ => ⟨S163, .i32⟩
  | .hbm, ⟨15, _⟩ => ⟨S_, .i32⟩
  | .hbm, ⟨16, _⟩ => ⟨S163, .i32⟩
  | .hbm, ⟨17, _⟩ => ⟨S163, .i1⟩
  | .hbm, ⟨18, _⟩ => ⟨S163, .i1⟩
  | .hbm, ⟨19, _⟩ => ⟨S_, .i32⟩
  | .hbm, ⟨20, _⟩ => ⟨S163, .i32⟩
  | .hbm, ⟨21, _⟩ => ⟨S163, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S163, .i32⟩
  | .hbm, ⟨29, _⟩ => ⟨S163, .i32⟩
  | .hbm, ⟨30, _⟩ => ⟨S_, .i32⟩
  | .hbm, ⟨31, _⟩ => ⟨S163, .i32⟩
  | .hbm, ⟨32, _⟩ => ⟨S163, .i1⟩
  | .hbm, ⟨33, _⟩ => ⟨S_, .i32⟩
  | .hbm, ⟨34, _⟩ => ⟨S163, .i32⟩
  | .hbm, ⟨35, _⟩ => ⟨S163, .i1⟩
  | .hbm, ⟨36, _⟩ => ⟨S_, .i32⟩
  | .hbm, ⟨37, _⟩ => ⟨S_, .i1⟩
  | .hbm, ⟨38, _⟩ => ⟨S163, .i1⟩
  | .hbm, ⟨39, _⟩ => ⟨S163, .i1⟩
  | .hbm, ⟨40, _⟩ => ⟨S163, .i1⟩
  | .hbm, ⟨41, _⟩ => ⟨S163, .i32⟩
  | .hbm, ⟨42, _⟩ => ⟨S163, .i32⟩
  | .hbm, ⟨43, _⟩ => ⟨S163, .i32⟩
  | .hbm, ⟨44, _⟩ => ⟨S_, .i32⟩
  | .hbm, ⟨45, _⟩ => ⟨S_, .i32⟩
  | .hbm, ⟨46, _⟩ => ⟨S163, .i32⟩
  | .hbm, ⟨47, _⟩ => ⟨S163, .i32⟩
  | .hbm, ⟨48, _⟩ => ⟨S163, .i32⟩
  | .hbm, ⟨49, _⟩ => ⟨S_, .i32⟩
  | .hbm, ⟨50, _⟩ => ⟨S163, .i32⟩
  | .hbm, ⟨51, _⟩ => ⟨S163, .i1⟩
  | .hbm, ⟨52, _⟩ => ⟨S163, .i32⟩
  | .hbm, ⟨53, _⟩ => ⟨S163, .i32⟩
  | .hbm, ⟨54, _⟩ => ⟨S_, .i32⟩
  | .hbm, ⟨55, _⟩ => ⟨S163, .i32⟩
  | .hbm, ⟨56, _⟩ => ⟨S163, .i1⟩
  | .hbm, ⟨57, _⟩ => ⟨S163, .i1⟩
  | .hbm, ⟨58, _⟩ => ⟨S_, .i32⟩
  | .hbm, ⟨59, _⟩ => ⟨S163, .i32⟩
  | .hbm, ⟨60, _⟩ => ⟨S163, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S163, .i32⟩
  | .hbm, ⟨68, _⟩ => ⟨S163, .i32⟩
  | .hbm, ⟨69, _⟩ => ⟨S_, .i32⟩
  | .hbm, ⟨70, _⟩ => ⟨S163, .i32⟩
  | .hbm, ⟨71, _⟩ => ⟨S163, .i1⟩
  | .hbm, ⟨72, _⟩ => ⟨S_, .i32⟩
  | .hbm, ⟨73, _⟩ => ⟨S163, .i32⟩
  | .hbm, ⟨74, _⟩ => ⟨S163, .i1⟩
  | .hbm, ⟨75, _⟩ => ⟨S_, .i32⟩
  | .hbm, ⟨76, _⟩ => ⟨S_, .i1⟩
  | .hbm, ⟨77, _⟩ => ⟨S163, .i1⟩
  | .hbm, ⟨78, _⟩ => ⟨S163, .i1⟩
  | .hbm, ⟨79, _⟩ => ⟨S163, .i1⟩
  | .hbm, ⟨80, _⟩ => ⟨S163, .i32⟩
  | .hbm, ⟨81, _⟩ => ⟨S163, .i32⟩
  | .hbm, ⟨82, _⟩ => ⟨S163, .i32⟩
  | .hbm, ⟨83, _⟩ => ⟨S163x32x32, .f32⟩
  | .hbm, ⟨84, _⟩ => ⟨S4, .i32⟩
  | .hbm, ⟨85, _⟩ => ⟨S163x1, .i32⟩
  | .hbm, ⟨86, _⟩ => ⟨S1x4, .i32⟩
  | .hbm, ⟨87, _⟩ => ⟨S163x4, .i32⟩
  | .hbm, ⟨88, _⟩ => ⟨S163x4, .i32⟩
  | .hbm, ⟨89, _⟩ => ⟨S163x4, .i1⟩
  | .hbm, ⟨90, _⟩ => ⟨S163x4, .bf16⟩
  | .hbm, ⟨91, _⟩ => ⟨S163x1, .i32⟩
  | .hbm, ⟨92, _⟩ => ⟨S1x4, .i32⟩
  | .hbm, ⟨93, _⟩ => ⟨S163x4, .i32⟩
  | .hbm, ⟨94, _⟩ => ⟨S163x4, .i32⟩
  | .hbm, ⟨95, _⟩ => ⟨S163x4, .i1⟩
  | .hbm, ⟨96, _⟩ => ⟨S163x4, .bf16⟩
  | .hbm, ⟨97, _⟩ => ⟨S163x32x32, .bf16⟩
  | .hbm, ⟨98, _⟩ => ⟨S163x1x32x1x32, .bf16⟩
  | .hbm, ⟨99, _⟩ => ⟨S163x4x1x1x1, .bf16⟩
  | .hbm, ⟨100, _⟩ => ⟨S163x4x32x1x32, .bf16⟩
  | .hbm, ⟨101, _⟩ => ⟨S163x4x32x1x32, .bf16⟩
  | .hbm, ⟨102, _⟩ => ⟨S163x4x32x1x32, .bf16⟩
  | .hbm, ⟨103, _⟩ => ⟨S163x1x1x4x1, .bf16⟩
  | .hbm, ⟨104, _⟩ => ⟨S163x4x32x4x32, .bf16⟩
  | .hbm, ⟨105, _⟩ => ⟨S163x4x32x4x32, .bf16⟩
  | .hbm, ⟨106, _⟩ => ⟨S163x4x32x4x32, .bf16⟩
  | .hbm, ⟨107, _⟩ => ⟨S163x128x128, .bf16⟩
  | .hbm, ⟨108, _⟩ => ⟨S1x4096, .f32⟩
  | .hbm, ⟨109, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S163x128x128, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .smem, ⟨0, _⟩ => ⟨S163, .i32⟩
  | .local _ .smem, ⟨1, _⟩ => ⟨S163, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_c : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_call0_c_0 : Ref sig .tc := ⟨.hbm, 19, rfl⟩
abbrev main_call0_call0_v12 : Ref sig .tc := ⟨.hbm, 20, rfl⟩
abbrev main_call0_call0_v13 : Ref sig .tc := ⟨.hbm, 21, rfl⟩
abbrev main_call0_c_0 : Ref sig .tc := ⟨.hbm, 22, rfl⟩
abbrev main_call0_call1_v0 : Ref sig .tc := ⟨.hbm, 23, rfl⟩
abbrev main_call0_call1_c : Ref sig .tc := ⟨.hbm, 24, rfl⟩
abbrev main_call0_call1_v1 : Ref sig .tc := ⟨.hbm, 25, rfl⟩
abbrev main_call0_call1_c_0 : Ref sig .tc := ⟨.hbm, 26, rfl⟩
abbrev main_call0_call1_v2 : Ref sig .tc := ⟨.hbm, 27, rfl⟩
abbrev main_call0_call1_v3 : Ref sig .tc := ⟨.hbm, 28, rfl⟩
abbrev main_call0_call1_v4 : Ref sig .tc := ⟨.hbm, 29, rfl⟩
abbrev main_call0_call1_c_1 : Ref sig .tc := ⟨.hbm, 30, rfl⟩
abbrev main_call0_call1_v5 : Ref sig .tc := ⟨.hbm, 31, rfl⟩
abbrev main_call0_call1_v6 : Ref sig .tc := ⟨.hbm, 32, rfl⟩
abbrev main_call0_call1_c_2 : Ref sig .tc := ⟨.hbm, 33, rfl⟩
abbrev main_call0_call1_v7 : Ref sig .tc := ⟨.hbm, 34, rfl⟩
abbrev main_call0_call1_v8 : Ref sig .tc := ⟨.hbm, 35, rfl⟩
abbrev main_call0_call1_c_3 : Ref sig .tc := ⟨.hbm, 36, rfl⟩
abbrev main_call0_call1_v9 : Ref sig .tc := ⟨.hbm, 37, rfl⟩
abbrev main_call0_call1_v10 : Ref sig .tc := ⟨.hbm, 38, rfl⟩
abbrev main_call0_call1_v11 : Ref sig .tc := ⟨.hbm, 39, rfl⟩
abbrev main_call0_call1_v12 : Ref sig .tc := ⟨.hbm, 40, rfl⟩
abbrev main_call0_call1_v13 : Ref sig .tc := ⟨.hbm, 41, rfl⟩
abbrev main_call0_call1_v14 : Ref sig .tc := ⟨.hbm, 42, rfl⟩
abbrev main_call0_v1 : Ref sig .tc := ⟨.hbm, 43, rfl⟩
abbrev main_call0_c_1 : Ref sig .tc := ⟨.hbm, 44, rfl⟩
abbrev main_call0_call2_v0 : Ref sig .tc := ⟨.hbm, 45, rfl⟩
abbrev main_call0_call2_v1 : Ref sig .tc := ⟨.hbm, 46, rfl⟩
abbrev main_call0_call2_v2 : Ref sig .tc := ⟨.hbm, 47, rfl⟩
abbrev main_call0_call2_v3 : Ref sig .tc := ⟨.hbm, 48, rfl⟩
abbrev main_call0_call2_v4 : Ref sig .tc := ⟨.hbm, 49, rfl⟩
abbrev main_call0_call2_v5 : Ref sig .tc := ⟨.hbm, 50, rfl⟩
abbrev main_call0_call2_v6 : Ref sig .tc := ⟨.hbm, 51, rfl⟩
abbrev main_call0_call2_v7 : Ref sig .tc := ⟨.hbm, 52, rfl⟩
abbrev main_call0_call2_v8 : Ref sig .tc := ⟨.hbm, 53, rfl⟩
abbrev main_call0_call2_c : Ref sig .tc := ⟨.hbm, 54, rfl⟩
abbrev main_call0_call2_v9 : Ref sig .tc := ⟨.hbm, 55, rfl⟩
abbrev main_call0_call2_v10 : Ref sig .tc := ⟨.hbm, 56, rfl⟩
abbrev main_call0_call2_v11 : Ref sig .tc := ⟨.hbm, 57, rfl⟩
abbrev main_call0_call2_c_0 : Ref sig .tc := ⟨.hbm, 58, rfl⟩
abbrev main_call0_call2_v12 : Ref sig .tc := ⟨.hbm, 59, rfl⟩
abbrev main_call0_call2_v13 : Ref sig .tc := ⟨.hbm, 60, rfl⟩
abbrev main_call0_c_2 : Ref sig .tc := ⟨.hbm, 61, rfl⟩
abbrev main_call0_call3_v0 : Ref sig .tc := ⟨.hbm, 62, rfl⟩
abbrev main_call0_call3_c : Ref sig .tc := ⟨.hbm, 63, rfl⟩
abbrev main_call0_call3_v1 : Ref sig .tc := ⟨.hbm, 64, rfl⟩
abbrev main_call0_call3_c_0 : Ref sig .tc := ⟨.hbm, 65, rfl⟩
abbrev main_call0_call3_v2 : Ref sig .tc := ⟨.hbm, 66, rfl⟩
abbrev main_call0_call3_v3 : Ref sig .tc := ⟨.hbm, 67, rfl⟩
abbrev main_call0_call3_v4 : Ref sig .tc := ⟨.hbm, 68, rfl⟩
abbrev main_call0_call3_c_1 : Ref sig .tc := ⟨.hbm, 69, rfl⟩
abbrev main_call0_call3_v5 : Ref sig .tc := ⟨.hbm, 70, rfl⟩
abbrev main_call0_call3_v6 : Ref sig .tc := ⟨.hbm, 71, rfl⟩
abbrev main_call0_call3_c_2 : Ref sig .tc := ⟨.hbm, 72, rfl⟩
abbrev main_call0_call3_v7 : Ref sig .tc := ⟨.hbm, 73, rfl⟩
abbrev main_call0_call3_v8 : Ref sig .tc := ⟨.hbm, 74, rfl⟩
abbrev main_call0_call3_c_3 : Ref sig .tc := ⟨.hbm, 75, rfl⟩
abbrev main_call0_call3_v9 : Ref sig .tc := ⟨.hbm, 76, rfl⟩
abbrev main_call0_call3_v10 : Ref sig .tc := ⟨.hbm, 77, rfl⟩
abbrev main_call0_call3_v11 : Ref sig .tc := ⟨.hbm, 78, rfl⟩
abbrev main_call0_call3_v12 : Ref sig .tc := ⟨.hbm, 79, rfl⟩
abbrev main_call0_call3_v13 : Ref sig .tc := ⟨.hbm, 80, rfl⟩
abbrev main_call0_call3_v14 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_v12 : Ref sig .tc := ⟨.hbm, 91, rfl⟩
abbrev main_call0_v13 : Ref sig .tc := ⟨.hbm, 92, rfl⟩
abbrev main_call0_v14 : Ref sig .tc := ⟨.hbm, 93, rfl⟩
abbrev main_call0_v15 : Ref sig .tc := ⟨.hbm, 94, rfl⟩
abbrev main_call0_v16 : Ref sig .tc := ⟨.hbm, 95, rfl⟩
abbrev main_call0_v17 : Ref sig .tc := ⟨.hbm, 96, rfl⟩
abbrev main_call0_v18 : Ref sig .tc := ⟨.hbm, 97, rfl⟩
abbrev main_call0_v19 : Ref sig .tc := ⟨.hbm, 98, rfl⟩
abbrev main_call0_v20 : Ref sig .tc := ⟨.hbm, 99, rfl⟩
abbrev main_call0_v21 : Ref sig .tc := ⟨.hbm, 100, rfl⟩
abbrev main_call0_v22 : Ref sig .tc := ⟨.hbm, 101, rfl⟩
abbrev main_call0_v23 : Ref sig .tc := ⟨.hbm, 102, rfl⟩
abbrev main_call0_v24 : Ref sig .tc := ⟨.hbm, 103, rfl⟩
abbrev main_call0_v25 : Ref sig .tc := ⟨.hbm, 104, rfl⟩
abbrev main_call0_v26 : Ref sig .tc := ⟨.hbm, 105, rfl⟩
abbrev main_call0_v27 : Ref sig .tc := ⟨.hbm, 106, rfl⟩
abbrev main_call0_v28 : Ref sig .tc := ⟨.hbm, 107, rfl⟩
abbrev main_call0_v29 : Ref sig .tc := ⟨.hbm, 108, rfl⟩
abbrev main_v0 : Ref sig .tc := ⟨.hbm, 109, rfl⟩
abbrev main_call0_v0 : Ref sig .tc := ⟨.smem, 0, rfl⟩
abbrev main_call0_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_call0_v0.idx, main_call0_v2.idx], fun | 0 => main_call0_v0.names | 1 => main_call0_v2.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c163_i32 : BitVec 32 := 163#32
  let v10 : BitVec 32 := Scalar.addi c0_i32 c163_i32
  let c1_i32 : BitVec 32 := 1#32
  ⟨c0_i32, v10, c1_i32⟩
def k0_off1 (k0_t1 : Fin k0_t1_loop.trips) : Fin 1 → Nat :=
  let c0_i32 : BitVec 32 := 0#32
  let c1_i32 : BitVec 32 := 1#32
  let arg8 : BitVec 32 := Scf.iv c0_i32 c1_i32 k0_t1
  let v11 : Index := Scalar.indexCast arg8
  ![v11.toNat]
def k0_off2 (v12 : BitVec 32) : Fin 2 → Nat :=
  let c0_8 : Index := 0#32
  let c128_i32 : BitVec 32 := 128#32
  let v15 : BitVec 32 := Scalar.muli v12 c128_i32
  let v16 : Index := Scalar.indexCast v15
  ![0, v16.toNat]

def k0_chk1 (v12 : BitVec 32) : Prop :=
  (∀ a, (k0_off2 v12) a + S512x128.size a ≤ S512x4096.size a)
theorem k0_off2_inb : ∀ (v12 : BitVec 32) (k0_hw1 : k0_chk1 v12), ∀ a, (k0_off2 v12) a + S512x128.size a ≤ S512x4096.size a := fun v12 k0_hw1 => k0_hw1

def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v18 : Index := Scalar.indexCast arg8
  let c0_9 : Index := 0#32
  let c0_10 : Index := 0#32
  ![v18.toNat, 0, 0]
def k0_off4 (v14 : BitVec 32) : Fin 2 → Nat :=
  let c0_12 : Index := 0#32
  let c128_i32_11 : BitVec 32 := 128#32
  let v22 : BitVec 32 := Scalar.muli v14 c128_i32_11
  let v23 : Index := Scalar.indexCast v22
  ![0, v23.toNat]

def k0_chk2 (v14 : BitVec 32) : Prop :=
  (∀ a, (k0_off4 v14) a + S512x128.size a ≤ S512x4096.size a)
theorem k0_off4_inb : ∀ (v14 : BitVec 32) (k0_hw2 : k0_chk2 v14), ∀ a, (k0_off4 v14) a + S512x128.size a ≤ S512x4096.size a := fun v14 k0_hw2 => k0_hw2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S163x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x4096 : Shape := ⟨2, ![8192, 4096]⟩
abbrev S163x32x32 : Shape := ⟨3, ![163, 32, 32]⟩
abbrev S163 : Shape := ⟨1, ![163]⟩
abbrev S4096 : Shape := ⟨1, ![4096]⟩
abbrev S8192x128x32 : Shape := ⟨3, ![8192, 128, 32]⟩
abbrev S_ : Shape := ⟨0, ![]⟩
abbrev S163x1 : Shape := ⟨2, ![163, 1]⟩
abbrev S1 : Shape := ⟨1, ![1]⟩
abbrev S1x1 : Shape := ⟨2, ![1, 1]⟩
abbrev S8192x163x32 : Shape := ⟨3, ![8192, 163, 32]⟩
abbrev S163x8192x32 : Shape := ⟨3, ![163, 8192, 32]⟩
abbrev S128x8192x32 : Shape := ⟨3, ![128, 8192, 32]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S163x32x32, .f32⟩
  | .hbm, ⟨2, _⟩ => ⟨S163, .i32⟩
  | .hbm, ⟨3, _⟩ => ⟨S163, .i32⟩
  | .hbm, ⟨4, _⟩ => ⟨S4096, .f32⟩
  | .hbm, ⟨5, _⟩ => ⟨S8192x128x32, .f32⟩
  | .hbm, ⟨6, _⟩ => ⟨S_, .i32⟩
  | .hbm, ⟨7, _⟩ => ⟨S163, .i32⟩
  | .hbm, ⟨8, _⟩ => ⟨S163, .i1⟩
  | .hbm, ⟨9, _⟩ => ⟨S_, .i32⟩
  | .hbm, ⟨10, _⟩ => ⟨S163, .i32⟩
  | .hbm, ⟨11, _⟩ => ⟨S163, .i32⟩
  | .hbm, ⟨12, _⟩ => ⟨S163, .i32⟩
  | .hbm, ⟨13, _⟩ => ⟨S163x1, .i32⟩
  | .hbm, ⟨14, _⟩ => ⟨S1, .i32⟩
  | .hbm, ⟨15, _⟩ => ⟨S_, .i32⟩
  | .hbm, ⟨16, _⟩ => ⟨S163x1, .i32⟩
  | .hbm, ⟨17, _⟩ => ⟨S163x1, .i1⟩
  | .hbm, ⟨18, _⟩ => ⟨S1x1, .i32⟩
  | .hbm, ⟨19, _⟩ => ⟨S163x1, .i32⟩
  | .hbm, ⟨20, _⟩ => ⟨S163x1, .i1⟩
  | .hbm, ⟨21, _⟩ => ⟨S163x1, .i1⟩
  | .hbm, ⟨22, _⟩ => ⟨S_, .i1⟩
  | .hbm, ⟨23, _⟩ => ⟨S163, .i1⟩
  | .hbm, ⟨24, _⟩ => ⟨S8192x163x32, .f32⟩
  | .hbm, ⟨25, _⟩ => ⟨S8192x163x32, .i1⟩
  | .hbm, ⟨26, _⟩ => ⟨S_, .f32⟩
  | .hbm, ⟨27, _⟩ => ⟨S8192x163x32, .f32⟩
  | .hbm, ⟨28, _⟩ => ⟨S8192x163x32, .f32⟩
  | .hbm, ⟨29, _⟩ => ⟨S163x8192x32, .f32⟩
  | .hbm, ⟨30, _⟩ => ⟨S_, .f32⟩
  | .hbm, ⟨31, _⟩ => ⟨S128x8192x32, .f32⟩
  | .hbm, ⟨32, _⟩ => ⟨S163x1, .i32⟩
  | .hbm, ⟨33, _⟩ => ⟨S128x8192x32, .f32⟩
  | .hbm, ⟨34, _⟩ => ⟨S8192x128x32, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]
-- ==== Proof.InRange.lean ====
/- What the precondition says of the two tables: each of their words is one of the 128 block rows or columns. -/
module

public import proofs.«01_k».proof.Pre_in_range
public import Idealize.ShloMosaic.Lib.ReduceAll
public import Idealize.ShloMosaic.Lib.StableHlo.Predicate
public import Idealize.ShloMosaic.Lib.PointwiseCore

@[expose] public section

noncomputable section

namespace Cert.Spmm

open Idealize.ShloMosaic

variable {F : FTy → Type} [FloatOps F]

/-- A word that is at least zero and below 128 as a signed number is below 128 as a natural number. -/
theorem word_lt {a : BitVec 32} (h0 : (0#32).sle a = true) (h1 : a.slt 128#32 = true) : a.toNat < 128 := by
  simp only [BitVec.sle, BitVec.slt, decide_eq_true_eq, BitVec.toInt_eq_toNat_cond] at h0 h1
  simp at h0 h1
  omega

/-- The precondition holds only where every word of either table is below 128. -/
theorem in_range [hFacts : Cert.Pre_in_range.Facts] (x : FVec F Cert.Pre_in_range.S8192x4096 .f32) (w : FVec F Cert.Pre_in_range.S163x32x32 .f32)
    (r k : IVec Cert.Pre_in_range.S163 32) (b : FVec F Cert.Pre_in_range.S4096 .f32)
    (h : Cert.Pre_in_range.fn x w r k b = fun _ => 1#1) (i : Cert.Pre_in_range.S163.Idx) : (r i).toNat < 128 ∧ (k i).toNat < 128 := by
  have h' := congrFun h ValueIdx.ix0
  simp only [Cert.Pre_in_range.fn, andi, IntOp.andi_eq_one] at h'
  obtain ⟨⟨⟨h1, h2⟩, h3⟩, h4⟩ := h'
  haveI : Subsingleton Cert.Pre_in_range.S_.Idx := ⟨fun a b => funext fun j => j.elim0⟩
  have h1 := Host.reduce_andi_all _ _ _ _ _ h1 i
  have h2 := Host.reduce_andi_all _ _ _ _ _ h2 i
  have h3 := Host.reduce_andi_all _ _ _ _ _ h3 i
  have h4 := Host.reduce_andi_all _ _ _ _ _ h4 i
  simp only [cmpi, IntOp.cmpi, StableHlo.Predicate.ofBool_eq_one_iff, broadcastInDim, constantI] at h1 h2 h3 h4
  exact ⟨word_lt h1 h2, word_lt h3 h4⟩

end Cert.Spmm

end
-- ==== Proof.KernelIdeal.Trip.lean ====
/- One grid point's work as a function of what its buffers hold: what one trip of the block loop does to the output
   tile, the tile after the first trips, and the loop's invariant. -/
module

public import proofs.«01_k».proof.Proof.Gen.KernelIdeal.Skeleton
public import Idealize.ShloMosaic.Lib.Exec
public import Idealize.ShloMosaic.Lib.Tactic
public import Idealize.ShloMosaic.Lib.WritesUnit
public import Idealize.ShloMosaic.Lib.Pipeline.FrameBody

@[expose] public section

set_option maxRecDepth 16384

noncomputable section

namespace Cert.KernelIdeal.Spmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The word that trip `k` loads from a table memref `M` holding `X`. -/
abbrev wordAt (M : Memref sig .tc .smem S163 .i32) (X : BufTy.Contents (Elt F) M.view.ty)
    (k : Fin k0_t1_loop.trips) : Elt F .i32 :=
  M.view.readAt (Elt F) (Rect.unit (s := S163) (k0_off1 k) S1.size (k0_off1_inb k)).toLoadRect X
    (Shape.Idx.first (numel1_S1.symm ▸ Nat.one_pos))

/-- What trip `k` makes of the output tile `y`: the 128 columns that the row word `rw` names gain the product of the
    128 columns of `xs` that the column word `cw` names with block `k` of `w`; every other column stays. -/
def step (rw cw : BitVec 32) (hc : k0_chk1 cw) (hr : k0_chk2 rw) (k : Fin k0_t1_loop.trips)
    (xs : Vec F S512x4096 .bf16) (w : Vec F S163x128x128 .bf16) (y : Vec F S512x4096 .f32) : Vec F S512x4096 .f32 :=
  fun i =>
    if h : ∀ a, k0_off4 rw a ≤ (i a).val ∧ (i a).val < k0_off4 rw a + S512x128.size a then
      k0_pay3 (View.ld xs (Rect.unit (s := S512x4096) (k0_off2 cw) S512x128.size (k0_off2_inb cw hc)))
        (View.ld w (Rect.unit (s := S163x128x128) (k0_off3 k) S1x128x128.size (k0_off3_inb k)))
        (View.ld y (Rect.unit (s := S512x4096) (k0_off4 rw) S512x128.size (k0_off4_inb rw hr)))
        (Rect.unitLocal (s := S512x4096) (off := k0_off4 rw) (size := S512x128.size) i h)
    else y i

/-- The output tile before trip `n`, from the tile `y₀` the loop starts with. -/
def tile (rw cw : Fin k0_t1_loop.trips → BitVec 32) (hc : ∀ k, k0_chk1 (cw k)) (hr : ∀ k, k0_chk2 (rw k))
    (xs : Vec F S512x4096 .bf16) (w : Vec F S163x128x128 .bf16) (y₀ : Vec F S512x4096 .f32) : ℕ → Vec F S512x4096 .f32
  | 0 => y₀
  | n + 1 =>
    if h : n < k0_t1_loop.trips then
      step (rw ⟨n, h⟩) (cw ⟨n, h⟩) (hc ⟨n, h⟩) (hr ⟨n, h⟩) ⟨n, h⟩ xs w (tile rw cw hc hr xs w y₀ n)
    else tile rw cw hc hr xs w y₀ n

/-- One more trip: the tile steps. -/
theorem tile_succ (rw cw : Fin k0_t1_loop.trips → BitVec 32) (hc : ∀ k, k0_chk1 (cw k)) (hr : ∀ k, k0_chk2 (rw k))
    (xs : Vec F S512x4096 .bf16) (w : Vec F S163x128x128 .bf16) (y₀ : Vec F S512x4096 .f32)
    (k : Fin k0_t1_loop.trips) :
    tile rw cw hc hr xs w y₀ (k.val + 1)
      = step (rw k) (cw k) (hc k) (hr k) k xs w (tile rw cw hc hr xs w y₀ k.val) := by
  rw [tile.eq_2]; exact dif_pos k.isLt

/-- What the loop holds before trip `n`: the tables (at half share), the blocks and the copied inputs as they were, and
    the output memref at contents whose reading is the tile before trip `n`. -/
abbrev inv (c : Dev nD) (arg1 : Memref sig .tc .smem S163 .i32) (arg2 : Memref sig .tc .smem S163 .i32)
    (arg4 : Memref sig .tc .vmem S163x128x128 .bf16) (arg6 : Memref sig .tc .vmem S512x4096 .f32)
    (arg7 : Memref sig .tc .vmem S512x4096 .bf16)
    (X1 : BufTy.Contents (Elt F) arg1.view.ty) (X2 : BufTy.Contents (Elt F) arg2.view.ty)
    (X4 : BufTy.Contents (Elt F) arg4.view.ty) (X7 : BufTy.Contents (Elt F) arg7.view.ty)
    (hc : ∀ k, k0_chk1 (wordAt arg2 X2 k)) (hr : ∀ k, k0_chk2 (wordAt arg1 X1 k))
    (G : BufTy.Contents (Elt F) arg6.view.ty) (n : ℕ) : sProp 𝕄 :=
  iprop((arg1.view.loc (c : Thread nD τ) ↦{fullShare.right} X1) ∗ (arg2.view.loc (c : Thread nD τ) ↦{fullShare.right} X2)
    ∗ (arg4.view.loc (c : Thread nD τ) ↦[arg4.view.set]{fullShare} X4)
    ∗ (arg7.view.loc (c : Thread nD τ) ↦[arg7.view.set]{fullShare} X7)
    ∗ (∃ f, (arg6.view.loc (c : Thread nD τ) ↦[arg6.view.set]{fullShare} f)
        ∗ ⌜arg6.view.read (Elt F) f
            = tile (wordAt arg1 X1) (wordAt arg2 X2) hc hr (arg7.view.read (Elt F) X7) (arg4.view.read (Elt F) X4)
                (arg6.view.read (Elt F) G) n⌝))

set_option warn.classDefReducibility false in
/-- The block loop by its invariant: each trip steps the tile. -/
@[sl_loop] def loopInv (𝒱 : Variants) (c : Dev nD) (bd : Option 𝒱.V) (E : Set ℕ) (i : grid0.Coords)
    (arg1 : Memref sig .tc .smem S163 .i32) (harg1 : arg1.IsWhole) (arg2 : Memref sig .tc .smem S163 .i32) (harg2 : arg2.IsWhole)
    (arg3 : Memref sig .tc .vmem S512x4096 .f32) (harg3 : arg3.IsWhole) (arg4 : Memref sig .tc .vmem S163x128x128 .bf16) (harg4 : arg4.IsWhole)
    (arg5 : Memref sig .tc .vmem S1x4096 .f32) (harg5 : arg5.IsWhole) (arg6 : Memref sig .tc .vmem S512x4096 .f32) (harg6 : arg6.IsWhole)
    (arg7 : Memref sig .tc .vmem S512x4096 .bf16) (harg7 : arg7.IsWhole)
    (X1 : BufTy.Contents (Elt F) arg1.view.ty) (X2 : BufTy.Contents (Elt F) arg2.view.ty)
    (X4 : BufTy.Contents (Elt F) arg4.view.ty) (X7 : BufTy.Contents (Elt F) arg7.view.ty)
    (hc : ∀ k, k0_chk1 (wordAt arg2 X2 k)) (hr : ∀ k, k0_chk2 (wordAt arg1 X1 k))
    (G : BufTy.Contents (Elt F) arg6.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok ()
      (k0_t1_body (F := F) i arg1 harg1 arg2 harg2 arg3 harg3 arg4 harg4 arg5 harg5 arg6 harg6 arg7 harg7) where
  inv n _ := inv c arg1 arg2 arg4 arg6 arg7 X1 X2 X4 X7 hc hr G n
  step k acc := by
    have hk : k.val < 163 := Nat.lt_of_lt_of_le k.isLt k0_t1_abs.2.1
    have hck := hc k
    have hrk := hr k
    unfold k0_t1_body
    iintro ⟨H1, H2, H4, H7, ⟨%f, H6, %hf⟩⟩
    sl_exec (disch := first | sl_exact hck | sl_exact hrk)
    sl_step
    isplitl [H1]; · iexact H1
    isplitl [H2]; · iexact H2
    isplitl [H4]; · iexact H4
    isplitl [H7]; · iexact H7
    iexists _; isplitl [H6]; · iexact H6
    ipureintro
    rw [tile_succ, ← hf]
    funext y
    exact View.read_writes_cons_unit arg6.view f _ _ [] y rfl

end Cert.KernelIdeal.Spmm

end
-- ==== Proof.KernelIdeal.Body.lean ====
/- The kernel's body at one grid point: on its staged blocks and its two tables it runs to the end and leaves the output
   tile `outTile` of them. -/
module

public import proofs.«01_k».proof.Proof.KernelIdeal.Trip
public import Idealize.ShloMosaic.Lib.Pipeline.Value

@[expose] public section

set_option maxRecDepth 16384

noncomputable section

namespace Cert.KernelIdeal.Spmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A table's buffer on core `c` held at half the full share at contents `f`. -/
abbrev halfPt (c : Dev nD) (M : Memref sig .tc .smem S163 .i32) (f : Buf (Elt F) (M.view.loc (c : Thread nD τ))) : sProp 𝕄 :=
  M.view.loc (c : Thread nD τ) ↦{fullShare.right} f

/-- The output tile the body leaves: from the bias in every row, all 163 trips over the token tile `x` and the blocks `w`. -/
def outTile (rw cw : Fin k0_t1_loop.trips → BitVec 32) (hc : ∀ k, k0_chk1 (cw k)) (hr : ∀ k, k0_chk2 (rw k))
    (x : Vec F S512x4096 .f32) (w : Vec F S163x128x128 .bf16) (b : Vec F S1x4096 .f32) : Vec F S512x4096 .f32 :=
  tile rw cw hc hr (k0_pay1 x) w (k0_pay2 b) k0_t1_loop.trips

theorem off_zero : (![0, 0] : Fin 2 → ℕ) = fun _ => 0 := by funext a; fin_cases a <;> rfl

/-- One store of a whole tile, read back, is what was stored. -/
theorem read_whole_store {sp : Space} {e : EltTy} (v : View sig .tc sp S512x4096 e) (f : v.ty.Contents (Elt F))
    (inb : ∀ a, (![0, 0] : Fin 2 → ℕ) a + S512x4096.size a ≤ S512x4096.size a) (w : S512x4096.Idx → Elt F e) :
    v.read (Elt F) (v.writes (Elt F) f [⟨Rect.unit (s := S512x4096) ![0, 0] S512x4096.size inb, w⟩]) = w := by
  funext y
  exact View.read_writes_cons_unit_of_mem v f inb w [] y y off_zero fun a => (Nat.zero_add _).symm

/-- The body at one point: inputs and tables come back as they were, the output memref reads `outTile`, the scratch
    holds something. -/
theorem body_run (c : Dev nD) (i : grid0.Coords)
    (arg1 : Memref sig .tc .smem S163 .i32) (harg1 : arg1.IsWhole) (arg2 : Memref sig .tc .smem S163 .i32) (harg2 : arg2.IsWhole)
    (arg3 : Memref sig .tc .vmem S512x4096 .f32) (harg3 : arg3.IsWhole) (arg4 : Memref sig .tc .vmem S163x128x128 .bf16) (harg4 : arg4.IsWhole)
    (arg5 : Memref sig .tc .vmem S1x4096 .f32) (harg5 : arg5.IsWhole) (arg6 : Memref sig .tc .vmem S512x4096 .f32) (harg6 : arg6.IsWhole)
    (arg7 : Memref sig .tc .vmem S512x4096 .bf16) (harg7 : arg7.IsWhole)
    (X1 : BufTy.Contents (Elt F) arg1.view.ty) (X2 : BufTy.Contents (Elt F) arg2.view.ty)
    (hc : ∀ k, k0_chk1 (wordAt arg2 X2 k)) (hr : ∀ k, k0_chk2 (wordAt arg1 X1 k))
    (x : Vec F S512x4096 .f32) (w : Vec F S163x128x128 .bf16) (b : Vec F S1x4096 .f32) (E : Set ℕ) (K : PUnit → sProp 𝕄) :
    iprop(owns (c : Thread nD τ) arg3 fullShare x ∗ owns (c : Thread nD τ) arg4 fullShare w
        ∗ owns (c : Thread nD τ) arg5 fullShare b ∗ (∃ d, owns (c : Thread nD τ) arg6 fullShare d)
        ∗ (∃ d, owns (c : Thread nD τ) arg7 fullShare d)
        ∗ halfPt c arg1 X1 ∗ halfPt c arg2 X2
        ∗ (iprop(owns (c : Thread nD τ) arg3 fullShare x ∗ owns (c : Thread nD τ) arg4 fullShare w
              ∗ owns (c : Thread nD τ) arg5 fullShare b
              ∗ owns (c : Thread nD τ) arg6 fullShare (outTile (wordAt arg1 X1) (wordAt arg2 X2) hc hr x w b)
              ∗ (∃ d, owns (c : Thread nD τ) arg7 fullShare d)
              ∗ halfPt c arg1 X1 ∗ halfPt c arg2 X2) -∗ K ⟨⟩))
      ⊢ wp frame (wpE (defs₀ (F := F)) Variants.none c none) E
          (cc0__spmm_body i arg1 harg1 arg2 harg2 arg3 harg3 arg4 harg4 arg5 harg5 arg6 harg6 arg7 harg7) K := by
  simp only [cc0__spmm_body_eq_skeleton]; unfold cc0__spmm_body_skel
  unfold owns
  iintro ⟨⟨%f3, %hf3, H3⟩, ⟨%f4, %hf4, H4⟩, ⟨%f5, %hf5, H5⟩, ⟨%d6, %f6, -, H6⟩, ⟨%d7, %f7, -, H7⟩, H1, H2, Hk⟩
  obtain rfl := harg3.eq_unread hf3
  obtain rfl := harg4.eq_unread hf4
  obtain rfl := harg5.eq_unread hf5
  sl_exec
  sl_step
  have e7 : arg7.view.read (Elt F) (arg7.view.writes (Elt F) arg7.view.junk (body_run.sl.H7_1 c arg3 harg3 x)) = k0_pay1 x := by
    unfold body_run.sl.H7_1
    rw [View.readAt_eq_ld, hf3, View.ld_unit_zero off_zero]
    exact read_whole_store arg7.view _ _ _
  have e6 : arg6.view.read (Elt F) (arg6.view.writes (Elt F) arg6.view.junk (body_run.sl.H6_1 c arg5 harg5 b)) = k0_pay2 b := by
    unfold body_run.sl.H6_1
    rw [View.readAt_eq_ld, hf5, View.ld_unit_zero off_zero]
    exact read_whole_store arg6.view _ _ _
  rw [e7, e6, hf4] at hL5
  iapply Hk
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]; · iexists _; isplitr; swap; · iexact H6
                  ipureintro; exact hL5
  isplitl [H7]; · iexists _, _; isplitr; swap; · iexact H7
                  ipureintro; rfl
  isplitl [H1]; · iexact H1
  iexact H2

end Cert.KernelIdeal.Spmm

end
-- ==== Proof.KernelIdeal.Run.lean ====
/- The launch: the host prefix, then the pipeline over the sixteen token tiles. Whenever the words of the two tables name
   columns inside the tiles, every execution ends with each input unchanged and the output array holding, tile by tile,
   `outTile` of the staged blocks. -/
module

public import proofs.«01_k».proof.Proof.KernelIdeal.Body
public import proofs.«01_k».proof.Proof.Gen.KernelIdeal.Launch
public import Idealize.ShloMosaic.Lib.Claim
public import Idealize.ShloMosaic.Lib.StableHlo.RunRead

@[expose] public section

set_option maxRecDepth 16384

noncomputable section

namespace Cert.KernelIdeal.Spmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the host operations run over the launch memory. -/
def V (c : Dev nD) (b : Ref sig .tc) : Buf (Elt F) ((c : Thread nD τ).loc b) :=
  StableHlo.after (hostOps0 (F := F)) (fun b => m (c, b)) b

/-- No host operation allocates. -/
theorem hostOps0_fresh : (hostOps0 (F := F)).Forall fun op => op.fresh = ∅ := by
  repeat' constructor

/-- @main up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) := by
  unfold V; after_reads_simp
theorem V_arg1 (c : Dev nD) : V m c main_arg1 = m ((c : Thread nD τ).loc main_arg1) := by
  unfold V; after_reads_simp
theorem V_arg2 (c : Dev nD) : V m c main_arg2 = m ((c : Thread nD τ).loc main_arg2) := by
  unfold V; after_reads_simp
theorem V_arg3 (c : Dev nD) : V m c main_arg3 = m ((c : Thread nD τ).loc main_arg3) := by
  unfold V; after_reads_simp
theorem V_arg4 (c : Dev nD) : V m c main_arg4 = m ((c : Thread nD τ).loc main_arg4) := by
  unfold V; after_reads_simp

/-! ## The tables -/

/-- The two tables' contents when the region is entered (the program runs on one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- No window's place depends on a table, so the tables' contents are always admissible. -/
theorem ok_tbl : ok0 (F := F) (tbl m) := trivial

/-- The pipeline at the tables. -/
abbrev adm : (pcfg0 (F := F)).Adm := ⟨tbl m, ok_tbl m⟩
abbrev cfgM : Pipeline.Cfg sig Λ₀ := cfg0 (adm m)

/-- The row words' table and the column words' table as the body is handed them. -/
abbrev rowM : Memref sig .tc .smem S163 .i32 := Memref.whole main_call0_v0
abbrev colM : Memref sig .tc .smem S163 .i32 := Memref.whole main_call0_v2

/-- Trip `k`'s row word and column word. -/
abbrev rw (k : Fin k0_t1_loop.trips) : BitVec 32 := wordAt (F := F) rowM (tbl m 0) k
abbrev cw (k : Fin k0_t1_loop.trips) : BitVec 32 := wordAt (F := F) colM (tbl m 1) k

/-- What the run needs of the tables: each trip's column word and row word names 128 columns inside a tile. -/
structure Words : Prop where
  col : ∀ k, k0_chk1 (cw m k)
  row : ∀ k, k0_chk2 (rw m k)

/-- The tables' halves that the body is handed. -/
theorem PhiT_eq (c : Dev nD) :
    (Pipeline.ΦT pre0 (tbl m) c : sProp 𝕄) = iprop(halfPt c rowM (tbl m 0) ∗ halfPt c colM (tbl m 1)) := by
  unfold Pipeline.ΦT Pipeline.prefHeld
  rw [bigSep_univ_eq_bigSepL [(0 : Fin 2), 1] (by decide) (by decide)]
  rfl

/-! ## The proof data -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

variable (hW : Words m)

/-- The output tile at point `t`. -/
abbrev outAt (c : Dev nD) (t : Fin (cfgM m).N) : Vec F S512x4096 .f32 :=
  outTile (rw m) (cw m) hW.col hW.row (iblk m c 0 t) (iblk m c 1 t) (iblk m c 2 t)

/-- The pipeline's proof data: the inputs' buffers keep their blocks, the output's holds `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m hW c t
  Φ _ := iprop(Pipeline.ΦA spec0 c ∗ Pipeline.ΦT pre0 (tbl m) c)
  q _ := fullShare
  owed _ := 0

theorem A_eq (c : Dev nD) (w : Fin (cfgM m).W) : (dats m hW 0 c).A w = V m c (Pipeline.arrRef spec0 w) := by
  dsimp only [dats]

theorem after_0 (c : Dev nD) (t : Fin (cfgM m).N) : (dats m hW 0 c).after 0 t = iblk m c 0 t := by dsimp only [dats]; try rfl
theorem after_1 (c : Dev nD) (t : Fin (cfgM m).N) : (dats m hW 0 c).after 1 t = iblk m c 1 t := by dsimp only [dats]; try rfl
theorem after_2 (c : Dev nD) (t : Fin (cfgM m).N) : (dats m hW 0 c).after 2 t = iblk m c 2 t := by dsimp only [dats]; try rfl
theorem after_3 (c : Dev nD) (t : Fin (cfgM m).N) : (dats m hW 0 c).after 3 t = outAt m hW c t := by dsimp only [dats]; try rfl

/-- An input's staging buffer holds its block when the body starts, fetched at that point or earlier. -/
theorem before_0 (c : Dev nD) (t : Fin (cfgM m).N) (d) : (dats m hW 0 c).before 0 t d = iblk m c 0 t :=
  ((dats m hW 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m hW 0 c).before 1 t d = iblk m c 1 t :=
  ((dats m hW 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m hW 0 c).before 2 t d = iblk m c 2 t :=
  ((dats m hW 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- Each window's staging memref at point `t`. -/
abbrev ms0 (t : Fin (cfgM m).N) : Memref sig .tc .vmem S512x4096 .f32 := spec0_0.stage ((cfgM m).slots t 0)
abbrev ms1 (t : Fin (cfgM m).N) : Memref sig .tc .vmem S163x128x128 .bf16 := spec0_1.stage ((cfgM m).slots t 1)
abbrev ms2 (t : Fin (cfgM m).N) : Memref sig .tc .vmem S1x4096 .f32 := spec0_2.stage ((cfgM m).slots t 2)
abbrev ms3 (t : Fin (cfgM m).N) : Memref sig .tc .vmem S512x4096 .f32 := spec0_3.stage ((cfgM m).slots t 3)

/-- The body as the pipeline calls it at point `t`. -/
abbrev bodyAt (t : Fin (cfgM m).N) : Prog (TpuEff nD τ sig (Elt F) Λ₀ .tc) PUnit :=
  cc0__spmm_body (grid0.coords t) rowM (Memref.isWhole_whole _) colM (Memref.isWhole_whole _)
    (ms0 m t) (hstage0_0 (((cfgM m).slots t 0).cast nbuf0_0)) (ms1 m t) (hstage0_1 (((cfgM m).slots t 1).cast nbuf0_1))
    (ms2 m t) (hstage0_2 (((cfgM m).slots t 2).cast nbuf0_2)) (ms3 m t) (hstage0_3 (((cfgM m).slots t 3).cast nbuf0_3))
    (Memref.whole cc0_scratch0) (Memref.isWhole_whole _)

/-- The scratch buffer held at something is the scratch memref owned at something. -/
theorem scratch_eq (c : Dev nD) :
    (iprop(∃ f : Buf (Elt F) ((c : Thread nD τ).loc cc0_scratch0), ((c : Thread nD τ).loc cc0_scratch0) ↦{fullShare} f) : sProp 𝕄)
      = iprop(∃ d, owns (c : Thread nD τ) (Memref.whole cc0_scratch0) fullShare d) := by
  simp only [owns_whole]

/-- What the body is called with at point `t`, -/
def bodyPre (c : Dev nD) (t : Fin (cfgM m).N) : sProp 𝕄 :=
  iprop((dats m hW 0 c).Φ t.castSucc ∗ (dats m hW 0 c).owesAt () t.castSucc
    ∗ (∃ d, owns (c : Thread nD τ) (ms0 m t) fullShare ((dats m hW 0 c).before 0 t d))
    ∗ (∃ d, owns (c : Thread nD τ) (ms1 m t) fullShare ((dats m hW 0 c).before 1 t d))
    ∗ (∃ d, owns (c : Thread nD τ) (ms2 m t) fullShare ((dats m hW 0 c).before 2 t d))
    ∗ (∃ d, owns (c : Thread nD τ) (ms3 m t) fullShare ((dats m hW 0 c).before 3 t d)))

/-- and what it returns. -/
def bodyPost (c : Dev nD) (t : Fin (cfgM m).N) : sProp 𝕄 :=
  iprop((dats m hW 0 c).Φ t.succ ∗ (dats m hW 0 c).owesAt () t.succ
    ∗ owns (c : Thread nD τ) (ms0 m t) fullShare ((dats m hW 0 c).after 0 t)
    ∗ owns (c : Thread nD τ) (ms1 m t) fullShare ((dats m hW 0 c).after 1 t)
    ∗ owns (c : Thread nD τ) (ms2 m t) fullShare ((dats m hW 0 c).after 2 t)
    ∗ owns (c : Thread nD τ) (ms3 m t) fullShare ((dats m hW 0 c).after 3 t))

/-- The body at any point meets what the pipeline asks. -/
theorem sound_body (c : Dev nD) (t : Fin (cfgM m).N) :
    bodyPre m hW c t ⊢ wp frame (wpE (defs₀ (F := F)) Variants.none c none) Set.univ (bodyAt m t) (fun _ => bodyPost m hW c t) := by
  unfold bodyPre bodyPost bodyAt
  simp only [before_0, before_1, before_2]
  rw [show (dats m hW 0 c).Φ t.succ = (dats m hW 0 c).Φ t.castSucc from rfl,
    show (dats m hW 0 c).owesAt () t.succ = (dats m hW 0 c).owesAt () t.castSucc from rfl,
    after_0, after_1, after_2, after_3]
  rw [show (dats m hW 0 c).Φ t.castSucc = iprop(Pipeline.ΦA spec0 c ∗ Pipeline.ΦT pre0 (tbl m) c) from rfl, PhiT_eq]
  unfold Pipeline.ΦA
  rw [scopedRest0_eq, scratch_eq]
  iintro ⟨⟨⟨HS, HP⟩, HT0, HT1⟩, Ho, ⟨%d0, H0⟩, ⟨%d1, H1⟩, ⟨%d2, H2⟩, ⟨%d3, H3⟩⟩
  iapply (body_run c (grid0.coords t) rowM _ colM _ (ms0 m t) _ (ms1 m t) _ (ms2 m t) _ (ms3 m t) _
    (Memref.whole cc0_scratch0) _ (tbl m 0) (tbl m 1) hW.col hW.row (iblk m c 0 t) (iblk m c 1 t) (iblk m c 2 t) Set.univ _)
  isplitl [H0]; · iexact H0
  isplitl [H1]; · iexact H1
  isplitl [H2]; · iexact H2
  isplitl [H3]; · iexists _; iexact H3
  isplitl [HS]; · iexact HS
  isplitl [HT0]; · iexact HT0
  isplitl [HT1]; · iexact HT1
  iintro ⟨H0, H1, H2, H3, HS, HT0, HT1⟩
  isplitl [HS HP HT0 HT1]
  · isplitl [HS HP]
    · isplitl [HS]; · iexact HS
      iexact HP
    isplitl [HT0]; · iexact HT0
    iexact HT1
  isplitl [Ho]; · iexact Ho
  isplitl [H0]; · iexact H0
  isplitl [H1]; · iexact H1
  isplitl [H2]; · iexact H2
  iexact H3

theorem defs₀_row (t : Fin (cfgM m).N) :
    defs₀ (F := F) .tc (cfgM m).body ((cfgM m).bodyArgs t ((cfgM m).slots t)) = bodyAt m t := by
  unfold defs₀; rw [Defs.onTc_tc]

/-- The pipeline's obligation, at every point. -/
theorem body_obligation (c : Dev nD) : BodyObligation (dats (F := F) m hW 0 c) (defs₀ (F := F)) Variants.none () Set.univ := fun t => by
  rw [bigSep_W0, bigSep_W0, defs₀_row m]
  exact triple_restated (sound_body m hW c t) rfl .rfl fun _ => .rfl

/-! ## The run -/

-- the theorem's implicit arguments are found by unifying its conclusion, unfolding plain definitions in their types
include hW in
set_option backward.isDefEq.respectTransparency.types false in
set_option maxHeartbeats 2000000 in
/-- Every execution ends; each staged array then holds what its windows left and every other buffer what it held when
    the region was entered; every counter is at zero. -/
theorem run : θ_run defs (onTc (τ := τ) (main (F := F))) (s₀ m ρ) (fun r =>
    (Pipeline.FramePost (Pipeline.pin pcfgs fun _ => adm m) (dats m hW) 0 (V m)) r ∧ r.2.sem = fun _ => 0) :=
  Pipeline.θ_run_frameP (Q' := _) pcfgs (fun _ => adm m) (dats m hW) (0 : Fin 1) launch0 defs₀ Variants.none m ρ main
    (hbody := fun c => (body_obligation m hW c).loose) (hshare := fun c => (dats m hW 0 c).share_full fun _ => rfl)
    (howed := fun _ _ => rfl) (V := V m) (hmain := hmain m Variants.none) (hA := A_eq m hW) (hpf := V_pre m) (hΦ := fun _ _ => rfl)

include hW in
/-- The frame: every execution ends with each argument array unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 0).trans (((dats m hW 0 c).arrAt_in 0 rfl _).trans ((A_eq m hW c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c)⟩, h.2⟩)
    (run m ρ hW)

end Cert.KernelIdeal.Spmm

end
-- ==== Proof.KernelIdeal.Words.lean ====
/- The tables the launch stages: the host divides each block row and block column by four, so each word of a table
   names one of the 32 groups of 128 columns, and every access of the block loop stays inside its tile. -/
module

public import proofs.«01_k».proof.Proof.KernelIdeal.Run
public import proofs.«01_k».proof.Proof.InRange
public import Idealize.ShloMosaic.Lib.Pipeline.ValueKit.Tiles

@[expose] public section

set_option maxRecDepth 16384

noncomputable section

namespace Cert.KernelIdeal.Spmm

open Idealize.ShloMosaic Idealize.ShloMosaic.TcCoe Idealize.ShloMosaic.Tactic
open Cert.KernelIdeal.Gen

variable {F : FTy → Type} [FloatOps F]
variable (m : (ℓ : Loc nD τ sig) → Buf (Elt F) ℓ)

/-- A vector of 163 copies of the word `v`. -/
abbrev bc (v : BitVec 32) : IVec S163 32 := broadcastInDim S163 ![] bcast_S_S163 (constantI S_ 32 v)

/-- The host's quotient by four, rounded down, of each word of a table. -/
def quotT (x : IVec S163 32) : IVec S163 32 :=
  select (andi (cmpi .ne (signi x) (broadcastInDim S163 ![] bcast_S_S163 (signi (constantI S_ 32 4#32))))
      (cmpi .ne (Host.remsi x (bc 4#32)) (bc 0#32)))
    (subi (Host.divsi x (bc 4#32)) (bc 1#32)) (Host.divsi x (bc 4#32))

/-- The divisor the host's remainder is taken by: four, or one if four were zero. -/
abbrev four : IVec S_ 32 :=
  select (cmpi .eq (constantI S_ 32 4#32) (constantI S_ 32 0#32)) (constantI S_ 32 1#32) (constantI S_ 32 4#32)

/-- The host's remainder by four, taken with the divisor's sign, of each word of a table. -/
def remT (x : IVec S163 32) : IVec S163 32 :=
  select
    (andi (cmpi .ne (cmpi .slt (Host.remsi x (broadcastInDim S163 ![] bcast_S_S163 four)) (bc 0#32))
        (broadcastInDim S163 ![] bcast_S_S163 (cmpi .slt four (constantI S_ 32 0#32))))
      (cmpi .ne (Host.remsi x (broadcastInDim S163 ![] bcast_S_S163 four)) (bc 0#32)))
    (addi (Host.remsi x (broadcastInDim S163 ![] bcast_S_S163 four)) (broadcastInDim S163 ![] bcast_S_S163 four))
    (Host.remsi x (broadcastInDim S163 ![] bcast_S_S163 four))

/-- The quotient of a word below 128 is its natural quotient. -/
theorem quotT_toNat (x : IVec S163 32) (i : S163.Idx) (h : (x i).toNat < 128) : (quotT x i).toNat = (x i).toNat / 4 := by
  have e : ∀ n : Fin 128, (quotT (fun _ => BitVec.ofNat 32 n.val) (Shape.Idx.ofFin (0 : Fin 163))).toNat = n.val / 4 := by decide +kernel
  have h2 := e ⟨(x i).toNat, h⟩
  rw [← h2]
  simp only [quotT, select, andi, cmpi, signi, subi, Host.divsi, Host.remsi, broadcastInDim, constantI, BitVec.ofNat_toNat, BitVec.setWidth_eq]
  rfl

/-- The remainder of a word below 128 is its natural remainder. -/
theorem remT_toNat (x : IVec S163 32) (i : S163.Idx) (h : (x i).toNat < 128) : (remT x i).toNat = (x i).toNat % 4 := by
  have e : ∀ n : Fin 128, (remT (fun _ => BitVec.ofNat 32 n.val) (Shape.Idx.ofFin (0 : Fin 163))).toNat = n.val % 4 := by decide +kernel
  have h2 := e ⟨(x i).toNat, h⟩
  rw [← h2]
  simp only [remT, select, andi, cmpi, addi, Host.remsi, broadcastInDim, constantI, BitVec.ofNat_toNat, BitVec.setWidth_eq]

/-- The row groups' table is the quotient of the block rows, -/
theorem V_quot_row (c : Dev nD) : (V m c main_call0_v0 : IVec S163 32) = quotT (m ((c : Thread nD τ).loc main_arg2)) := by
  unfold V; after_reads_simp; rfl
/-- and the column groups' table that of the block columns. -/
theorem V_quot_col (c : Dev nD) : (V m c main_call0_v2 : IVec S163 32) = quotT (m ((c : Thread nD τ).loc main_arg3)) := by
  unfold V; after_reads_simp; rfl

/-- The trip's number as an index of a table. -/
abbrev bIdx (k : Fin k0_t1_loop.trips) : S163.Idx := Shape.Idx.ofFin (n := 163) ⟨k.val, k.isLt⟩

/-- Trip `k`'s access to a table starts at entry `k`. -/
theorem off1_val : ∀ k : Fin k0_t1_loop.trips, k0_off1 k 0 = k.val := by decide +kernel

/-- A trip's word is the table's entry at the trip's number. -/
theorem word_idx (k : Fin k0_t1_loop.trips) (i : (Rect.unit (s := S163) (k0_off1 k) S1.size (k0_off1_inb k)).shape.Idx) :
    (Rect.unit (s := S163) (k0_off1 k) S1.size (k0_off1_inb k)).idx i = bIdx k := by
  funext a
  apply Fin.ext
  rw [Rect.idx_unit_val]
  obtain rfl : a = 0 := Subsingleton.elim _ _
  have : (i 0).val = 0 := Nat.lt_one_iff.mp (i 0).isLt
  rw [off1_val, this]; rfl

/-- Trip `k` reads entry `k` of the row groups' table, -/
theorem rw_eq (k : Fin k0_t1_loop.trips) : rw m k = quotT (m (((0 : Dev nD) : Thread nD τ).loc main_arg2)) (bIdx k) := by
  rw [← V_quot_row]
  exact congrArg (V m (0 : Dev nD) main_call0_v0 : IVec S163 32) (word_idx k _)
/-- and entry `k` of the column groups' table. -/
theorem cw_eq (k : Fin k0_t1_loop.trips) : cw m k = quotT (m (((0 : Dev nD) : Thread nD τ).loc main_arg3)) (bIdx k) := by
  rw [← V_quot_col]
  exact congrArg (V m (0 : Dev nD) main_call0_v2 : IVec S163 32) (word_idx k _)

/-- The column offset a word below 32 names. -/
theorem muli_toNat (w : BitVec 32) (h : w.toNat < 32) : (Scalar.muli w 128#32).toNat = w.toNat * 128 := by
  show (w * 128#32).toNat = _
  rw [BitVec.toNat_mul, Nat.mod_eq_of_lt (by simp; omega)]; rfl

theorem chk1_of_lt (w : BitVec 32) (h : w.toNat < 32) : k0_chk1 w := by
  unfold k0_chk1 k0_off2; intro a
  have := muli_toNat w h
  fin_cases a <;> simp [Scalar.indexCast]
  omega
theorem chk2_of_lt (w : BitVec 32) (h : w.toNat < 32) : k0_chk2 w := by
  unfold k0_chk2 k0_off4; intro a
  have := muli_toNat w h
  fin_cases a <;> simp [Scalar.indexCast]
  omega

/-- Where every block row and block column is below 128, every access of the block loop is inside its tile. -/
theorem words_of (hr : ∀ i : S163.Idx, (m (((0 : Dev nD) : Thread nD τ).loc main_arg2) i).toNat < 128)
    (hk : ∀ i : S163.Idx, (m (((0 : Dev nD) : Thread nD τ).loc main_arg3) i).toNat < 128) : Words m where
  col k := chk1_of_lt _ (by rw [cw_eq, quotT_toNat _ _ (hk _)]; have := hk (bIdx k); omega)
  row k := chk2_of_lt _ (by rw [rw_eq, quotT_toNat _ _ (hr _)]; have := hr (bIdx k); omega)

end Cert.KernelIdeal.Spmm

end
-- ==== Proof.Frames.lean ====
/- The three frames: each program ends with its arguments unchanged and every counter at zero. -/
module

public import proofs.«01_k».proof.Defs
public import proofs.«01_k».proof.Proof.Gen.Pre_in_range
public import proofs.«01_k».proof.Proof.Gen.ReferenceIdeal.Run
public import proofs.«01_k».proof.Proof.Kernel.Words
public import proofs.«01_k».proof.Proof.KernelIdeal.Words
public import Idealize.ShloMosaic.Lib.Quiescent

@[expose] public section

set_option maxRecDepth 16384

noncomputable section

namespace Cert.Spmm

open Idealize.ShloMosaic Idealize.ShloMosaic.TcCoe Idealize.SL.Sem

/-- The kernel's run from tables in range. -/
theorem frame_kernel : Cert.quiescent_Kernel (hKernel := Cert.Kernel.Gen.facts) (hPre_in_range := Cert.Pre_in_range.Gen.facts) :=
  fun m ρ h =>
    have e (i) := in_range (hFacts := Cert.Pre_in_range.Gen.facts) _ _ _ _ _ (h (0 : Dev Cert.Kernel.nD)) i
    Cert.Kernel.Spmm.frame m ρ (Cert.Kernel.Spmm.words_of m (fun i => (e i).1) (fun i => (e i).2))

/-- In range, the idealized kernel's tables name columns inside the tiles. -/
theorem words_ideal (m : (ℓ : Loc Cert.KernelIdeal.nD Cert.KernelIdeal.τ Cert.KernelIdeal.sig) → Buf (Elt Ideal) ℓ)
    (h : Cert.Pre_KernelIdeal (hPre_in_range := Cert.Pre_in_range.Gen.facts) m) : Cert.KernelIdeal.Spmm.Words m :=
  have e (i) := in_range (hFacts := Cert.Pre_in_range.Gen.facts) _ _ _ _ _ (h (0 : Dev Cert.KernelIdeal.nD)) i
  Cert.KernelIdeal.Spmm.words_of m (fun i => (e i).1) (fun i => (e i).2)

/-- The idealized kernel's run from tables in range. -/
theorem frame_ideal : Cert.quiescent_KernelIdeal (hKernelIdeal := Cert.KernelIdeal.Gen.facts) (hPre_in_range := Cert.Pre_in_range.Gen.facts) :=
  fun m ρ h => Cert.KernelIdeal.Spmm.frame m ρ (words_ideal m h)

/-- The reference's run; it declares no semaphore, so every counter is at zero. -/
theorem frame_reference : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run m ρ)

end Cert.Spmm

end
-- ==== Proof.Spec.lean ====
/- What the layer computes, written over the extended reals: entry (n, o) is bias o plus, over the blocks whose block row
   holds column o, the product of the 32 entries of row n that the block's column names with row o mod 32 of the block. -/
module

public import Idealize.ShloMosaic.Lib.Pointwise
public import Idealize.ShloMosaic.PureOps.Ideal

@[expose] public section

noncomputable section

namespace Cert.Spmm

open Idealize.ShloMosaic

/-- The 32 products of block `b` at row `n` of the input, for row `j` of the block: its words of `k` name the block
    column. -/
def blockDot (x : FVec Ideal ⟨2, ![8192, 4096]⟩ .f32) (w : FVec Ideal ⟨3, ![163, 32, 32]⟩ .f32) (k : IVec ⟨1, ![163]⟩ 32)
    (b : Fin 163) (n : Fin 8192) (j : Fin 32) : EReal :=
  ∑ i : Fin 32, x (ix2 n ⟨(k (ix1 b)).toNat % 128 * 32 + i.val, by omega⟩) * w (ix3 b j i)

/-- Entry (n, o) of the layer's result. -/
def layer (x : FVec Ideal ⟨2, ![8192, 4096]⟩ .f32) (w : FVec Ideal ⟨3, ![163, 32, 32]⟩ .f32) (r k : IVec ⟨1, ![163]⟩ 32)
    (bias : FVec Ideal ⟨1, ![4096]⟩ .f32) (n : Fin 8192) (o : Fin 4096) : EReal :=
  (∑ b : Fin 163, if (r (ix1 b)).toNat = o.val / 32 then blockDot x w k b n ⟨o.val % 32, by omega⟩ else 0) + bias (ix1 o)

end Cert.Spmm

end
-- ==== Proof.Reference.lean ====
/- The reference computes the layer: its gather, its contraction and its sum over segments, read at an index. -/
module

public import proofs.«01_k».proof.Proof.Gen.ReferenceIdeal.Run
public import proofs.«01_k».proof.Proof.Spec
public import Idealize.ShloMosaic.Lib.Routing.OpsPair
public import Idealize.ShloMosaic.Lib.ReduceAll

@[expose] public section

set_option maxRecDepth 16384

noncomputable section

namespace Cert.ReferenceIdeal.Spmm

open Idealize.ShloMosaic Idealize.ShloMosaic.TcCoe
open Cert.ReferenceIdeal.Gen

/-- The start word of each block: its block column, or that plus 128 where it is negative. -/
def start (k : IVec S163 32) : IVec S163x1 32 :=
  broadcastInDim S163x1 ![0] bcast_S163_S163x1_0
    (select (cmpi .slt k (broadcastInDim S163 ![] bcast_S_S163 (constantI S_ 32 0#32)))
      (addi k (broadcastInDim S163 ![] bcast_S_S163 (constantI S_ 32 128#32))) k)

/-- Which start words are in range. -/
def valid (k : IVec S163 32) : IVec S163x1 1 :=
  andi (cmpi .sge (start k) (broadcastInDim S163x1 ![] bcast_S_S163x1 (constantI S_ 32 0#32)))
    (cmpi .sle (start k) (broadcastInDim S163x1 ![0, 1] bcast_S1x1_S163x1_0_1 (broadcastInDim S1x1 ![1] bcast_S1_S1x1_1 (constantI S1 32 127#32))))

/-- The gathered block columns of the input. -/
def taken (x : FVec Ideal S8192x4096 .f32) (k : IVec S163 32) : FVec Ideal S8192x163x32 .f32 :=
  select (broadcastInDim S8192x163x32 ![1] bcast_S163_S8192x163x32_1
      (Host.reduce IntOp.andi (valid k) (constantI S_ 1 1#1) reducesTo_S163x1_S163_d1 h_S_))
    (Host.gather gather_S8192x128x32_S163x1_S8192x163x32_02_1_n_n_1_1_8192132
      (shapeCast S8192x128x32 x shapeCasts_S8192x4096_S8192x128x32) (start k))
    (broadcastInDim S8192x163x32 ![] bcast_S_S8192x163x32 (constant S_ .f32 0x7FC00000#32))

/-- Each block's product with its gathered columns. -/
def products (x : FVec Ideal S8192x4096 .f32) (w : FVec Ideal S163x32x32 .f32) (k : IVec S163 32) : FVec Ideal S163x8192x32 .f32 :=
  Host.dotGeneral dot_S8192x163x32_S163x32x32_S163x8192x32_2_2_0_1_1_0 none (taken x k) w

/-- The products summed into their block rows. -/
def segments (x : FVec Ideal S8192x4096 .f32) (w : FVec Ideal S163x32x32 .f32) (r k : IVec S163 32) : FVec Ideal S128x8192x32 .f32 :=
  Host.scatterAdd scatter_S128x8192x32_S163x1_S163x8192x32_12_0_0_1
    (broadcastInDim S128x8192x32 ![] bcast_S_S128x8192x32 (constant S_ .f32 0x00000000#32))
    (broadcastInDim S163x1 ![0] bcast_S163_S163x1_0 r) (products x w k)

/-- The reference's result. -/
def result (x : FVec Ideal S8192x4096 .f32) (w : FVec Ideal S163x32x32 .f32) (r k : IVec S163 32) (b : FVec Ideal S4096 .f32) :
    FVec Ideal S8192x4096 .f32 :=
  addf (shapeCast S8192x4096 (transpose S8192x128x32 [1, 0, 2] (segments x w r k) transposes_S128x8192x32_S8192x128x32_1_0_2)
      shapeCasts_S8192x128x32_S8192x4096)
    (broadcastInDim S8192x4096 ![0, 1] bcast_S1x4096_S8192x4096_0_1 (broadcastInDim S1x4096 ![1] bcast_S4096_S1x4096_1 b))

/-- A block column in range is its own start word. -/
theorem start_apply (k : IVec S163 32) (b : Fin 163) (h : (k (ix1 b)).toNat < 128) : start k (ix2 b 0) = k (ix1 b) := by
  unfold start
  pointwise
  exact Routing.wrap_of_lt _ _ (by omega)

/-- Every start word is in range. -/
theorem valid_apply (k : IVec S163 32) (h : ∀ b, (k (ix1 b)).toNat < 128) (j : S163x1.Idx) : valid k j = 1#1 := by
  obtain ⟨b, z, rfl⟩ : ∃ (b : Fin 163) (z : Fin 1), j = ix2 b z := ⟨j 0, j 1, eq_ix2 j⟩
  obtain rfl : z = 0 := Subsingleton.elim _ _
  unfold valid
  pointwise
  rw [start_apply k b (h b)]
  have hb := h b
  rw [IntOp.andi_eq_one]
  simp only [IntOp.cmpi, StableHlo.Predicate.ofBool_eq_one_iff]
  have ht := StableHlo.Predicate.toInt_eq_toNat_of_lt (a := k (ix1 b)) (by omega)
  simp only [BitVec.sle_eq_decide, decide_eq_true_eq, ht]
  exact ⟨Int.natCast_nonneg _, by show _ ≤ (127 : Int); omega⟩

/-- The gather takes block column `p` of row `n` where the start word is `p`. -/
theorem gather_apply (y : FVec Ideal S8192x128x32 .f32) (s : IVec S163x1 32) (n : Fin 8192) (b : Fin 163) (i : Fin 32)
    (h : (s (ix2 b 0)).toNat < 128) :
    Host.gather gather_S8192x128x32_S163x1_S8192x163x32_02_1_n_n_1_1_8192132 y s (ix3 n b i)
      = y (ix3 n ⟨(s (ix2 b 0)).toNat, h⟩ i) := by
  unfold Host.gather
  refine congrArg y (funext fun a => Fin.ext ?_)
  show GatherDims.start _ (ix3 n b i) s a + GatherDims.batchCoord _ (ix3 n b i) a + GatherDims.offCoord _ (ix3 n b i) a = _
  rw [GatherDims.batchCoord_eq_zero _ _ _ List.not_mem_nil, Nat.add_zero]
  match a with
  | ⟨0, _⟩ =>
    show GatherDims.start gather_S8192x128x32_S163x1_S8192x163x32_02_1_n_n_1_1_8192132 (ix3 n b i) s 0 + GatherDims.offCoord gather_S8192x128x32_S163x1_S8192x163x32_02_1_n_n_1_1_8192132 (ix3 n b i) 0 = _
    unfold GatherDims.start GatherDims.offCoord
    rw [dif_neg (by decide), dif_pos (by decide)]
    exact Nat.zero_add _
  | ⟨1, _⟩ =>
    show GatherDims.start gather_S8192x128x32_S163x1_S8192x163x32_02_1_n_n_1_1_8192132 (ix3 n b i) s 1 + GatherDims.offCoord gather_S8192x128x32_S163x1_S8192x163x32_02_1_n_n_1_1_8192132 (ix3 n b i) 1 = _
    unfold GatherDims.start GatherDims.offCoord
    rw [dif_pos (by decide), dif_neg (by decide), Nat.add_zero]
    have hs : GatherDims.siIdx gather_S8192x128x32_S163x1_S8192x163x32_02_1_n_n_1_1_8192132 (ix3 n b i) ⟨0, by decide⟩ = ix2 b 0 := by
      funext c
      match c with
      | ⟨0, _⟩ => rfl
      | ⟨1, _⟩ => rfl
    show min (s (GatherDims.siIdx gather_S8192x128x32_S163x1_S8192x163x32_02_1_n_n_1_1_8192132 (ix3 n b i) ⟨0, _⟩)).toInt.toNat 127 = (s (ix2 b 0)).toNat
    rw [hs, StableHlo.Predicate.toInt_eq_toNat_of_lt (by omega)]
    omega
  | ⟨2, _⟩ =>
    show GatherDims.start gather_S8192x128x32_S163x1_S8192x163x32_02_1_n_n_1_1_8192132 (ix3 n b i) s 2 + GatherDims.offCoord gather_S8192x128x32_S163x1_S8192x163x32_02_1_n_n_1_1_8192132 (ix3 n b i) 2 = _
    unfold GatherDims.start GatherDims.offCoord
    rw [dif_neg (by decide), dif_pos (by decide)]
    exact Nat.zero_add _

/-- The gathered entries are the input's at the block's column. -/
theorem taken_apply (x : FVec Ideal S8192x4096 .f32) (k : IVec S163 32) (h : ∀ b, (k (ix1 b)).toNat < 128)
    (n : Fin 8192) (b : Fin 163) (i : Fin 32) :
    taken x k (ix3 n b i) = x (ix2 n ⟨(k (ix1 b)).toNat % 128 * 32 + i.val, by omega⟩) := by
  have hv : Host.reduce IntOp.andi (valid k) (constantI S_ 1 1#1) reducesTo_S163x1_S163_d1 h_S_ = fun _ => 1#1 :=
    funext fun j => Host.reduce_andi_one _ _ _ _ _ rfl fun j => valid_apply k h j
  have hb := start_apply k b (h b)
  unfold taken
  rw [hv]
  pointwise
  rw [gather_apply _ _ _ _ _ (by rw [hb]; exact h b)]
  pointwise
  simp only [hb, Nat.mod_eq_of_lt (h b)]

/-- A block's product at a row is the sum of its 32 products. -/
theorem products_apply (x : FVec Ideal S8192x4096 .f32) (w : FVec Ideal S163x32x32 .f32) (k : IVec S163 32) (h : ∀ b, (k (ix1 b)).toNat < 128)
    (b : Fin 163) (n : Fin 8192) (j : Fin 32) : products x w k (ix3 b n j) = Cert.Spmm.blockDot x w k b n j := by
  unfold products Cert.Spmm.blockDot
  pointwise
  simp only [taken_apply x k h]

/-- A product lands in the segment its block row names, at its own row and column. -/
theorem lands (r : IVec S163 32) (b : Fin 163) (n n' : Fin 8192) (j j' : Fin 32) (q : Fin 128) (hr : (r (ix1 b)).toNat < 128) :
    scatter_S128x8192x32_S163x1_S163x8192x32_12_0_0_1.resultIdx? (ix3 b n' j') (broadcastInDim S163x1 ![0] bcast_S163_S163x1_0 r)
        = some (ix3 q n j) ↔ (r (ix1 b)).toNat = q.val ∧ n' = n ∧ j' = j := by
  rw [Routing.resultIdx?_eq_some]
  have hs : ScatterDims.siIdx scatter_S128x8192x32_S163x1_S163x8192x32_12_0_0_1 (ix3 b n' j') ⟨0, by decide⟩ = ix2 b 0 := by
    funext c
    match c with
    | ⟨0, _⟩ => rfl
    | ⟨1, _⟩ => rfl
  have e0 : ScatterDims.start scatter_S128x8192x32_S163x1_S163x8192x32_12_0_0_1 (ix3 b n' j') (broadcastInDim S163x1 ![0] bcast_S163_S163x1_0 r) 0
      = ((r (ix1 b)).toNat : Int) := by
    unfold ScatterDims.start
    rw [dif_pos (by decide)]
    show BitVec.toInt (broadcastInDim S163x1 ![0] bcast_S163_S163x1_0 r
      (ScatterDims.siIdx scatter_S128x8192x32_S163x1_S163x8192x32_12_0_0_1 (ix3 b n' j') ⟨0, _⟩)) = _
    rw [hs]
    pointwise
    exact StableHlo.Predicate.toInt_eq_toNat_of_lt (by omega)
  have e1 : ScatterDims.start scatter_S128x8192x32_S163x1_S163x8192x32_12_0_0_1 (ix3 b n' j') (broadcastInDim S163x1 ![0] bcast_S163_S163x1_0 r) 1 = 0 := by
    unfold ScatterDims.start; exact dif_neg (by decide)
  have e2 : ScatterDims.start scatter_S128x8192x32_S163x1_S163x8192x32_12_0_0_1 (ix3 b n' j') (broadcastInDim S163x1 ![0] bcast_S163_S163x1_0 r) 2 = 0 := by
    unfold ScatterDims.start; exact dif_neg (by decide)
  have w0 : ScatterDims.window scatter_S128x8192x32_S163x1_S163x8192x32_12_0_0_1 (ix3 b n' j') 0 = 0 := by
    unfold ScatterDims.window; exact dif_neg (by decide)
  have w1 : ScatterDims.window scatter_S128x8192x32_S163x1_S163x8192x32_12_0_0_1 (ix3 b n' j') 1 = n'.val := by
    unfold ScatterDims.window; rw [dif_pos (by decide)]; rfl
  have w2 : ScatterDims.window scatter_S128x8192x32_S163x1_S163x8192x32_12_0_0_1 (ix3 b n' j') 2 = j'.val := by
    unfold ScatterDims.window; rw [dif_pos (by decide)]; rfl
  constructor
  · intro h
    have h0 := h 0
    have h1 := h 1
    have h2 := h 2
    rw [e0, w0] at h0
    rw [e1, w1] at h1
    rw [e2, w2] at h2
    change _ = (q.val : Int) at h0
    change _ = (n.val : Int) at h1
    change _ = (j.val : Int) at h2
    exact ⟨by omega, Fin.ext (by omega), Fin.ext (by omega)⟩
  · rintro ⟨h0, rfl, rfl⟩ a
    match a with
    | ⟨0, _⟩ => exact (congrArg₂ (fun (u : Int) (v : Nat) => u + (v : Int)) e0 w0).trans (by show _ = (q.val : Int); omega)
    | ⟨1, _⟩ => exact (congrArg₂ (fun (u : Int) (v : Nat) => u + (v : Int)) e1 w1).trans (by show _ = (n'.val : Int); omega)
    | ⟨2, _⟩ => exact (congrArg₂ (fun (u : Int) (v : Nat) => u + (v : Int)) e2 w2).trans (by show _ = (j'.val : Int); omega)

/-- A segment holds the sum of the products of the blocks whose block row it is. -/
theorem segments_apply (x : FVec Ideal S8192x4096 .f32) (w : FVec Ideal S163x32x32 .f32) (r k : IVec S163 32)
    (hr : ∀ b, (r (ix1 b)).toNat < 128) (hk : ∀ b, (k (ix1 b)).toNat < 128) (q : Fin 128) (n : Fin 8192) (j : Fin 32) :
    segments x w r k (ix3 q n j) = ∑ b : Fin 163, if (r (ix1 b)).toNat = q.val then Cert.Spmm.blockDot x w k b n j else 0 := by
  unfold segments Host.scatterAdd
  rw [Ideal.hostScatterAdd_def]
  unfold Ideal.hostScatterAdd
  pointwise
  rw [Finset.sum_filter, sum_idx3]
  refine Finset.sum_congr rfl fun b _ => ?_
  simp only [lands r b n _ j _ q (hr b), products_apply x w k hk]
  by_cases e : (r (ix1 b)).toNat = q.val
  · simp only [e, true_and, if_true]
    rw [Finset.sum_eq_single n, Finset.sum_eq_single j]
    · simp
    · intro c _ hc; simp [hc]
    · simp
    · intro c _ hc; simp [hc]
    · simp
  · simp [e]

/-- The reference's result is the layer. -/
theorem result_apply (x : FVec Ideal S8192x4096 .f32) (w : FVec Ideal S163x32x32 .f32) (r k : IVec S163 32) (b : FVec Ideal S4096 .f32)
    (hr : ∀ b, (r (ix1 b)).toNat < 128) (hk : ∀ b, (k (ix1 b)).toNat < 128) (n : Fin 8192) (o : Fin 4096) :
    result x w r k b (ix2 n o) = Cert.Spmm.layer x w r k b n o := by
  unfold result Cert.Spmm.layer
  pointwise
  simp only [segments_apply x w r k hr hk]

end Cert.ReferenceIdeal.Spmm

end
-- ==== Proof.KernelIdeal.TileValue.lean ====
/- One grid point's tile over the extended reals: what a trip adds to an entry of the tile, and the tile after all 163
   trips as the bias plus the sum of what the trips add. -/
module

public import proofs.«01_k».proof.Proof.KernelIdeal.Words
public import Idealize.ShloMosaic.Lib.Pointwise
public import Idealize.ShloMosaic.PureOps.Ideal

@[expose] public section

set_option maxRecDepth 16384

noncomputable section

namespace Cert.KernelIdeal.Spmm

open Idealize.ShloMosaic Idealize.ShloMosaic.TcCoe Idealize.ShloMosaic.Tactic
open Cert.KernelIdeal.Gen

/-- What trip `k` adds to entry (p, q) of the tile: where the row word names the 128 columns of `q`, the product of the
    128 columns of `xs` that the column word names with column `q mod 128` of block `k` of `w`. -/
def gain (rw cw : BitVec 32) (k : Fin 163) (xs : Vec Ideal S512x4096 .bf16) (w : Vec Ideal S163x128x128 .bf16)
    (p : Fin 512) (q : Fin 4096) : EReal :=
  if rw.toNat = q.val / 128 then
    ∑ c : Fin 128, xs (ix2 p ⟨cw.toNat % 32 * 128 + c.val, by omega⟩) * w (ix3 k c ⟨q.val % 128, by omega⟩)
  else 0

/-- Where trip `k` reads its block. -/
theorem off3_val : ∀ k : Fin k0_t1_loop.trips, k0_off3 k 0 = k.val ∧ k0_off3 k 1 = 0 ∧ k0_off3 k 2 = 0 := by decide +kernel

theorem off2_val (w : BitVec 32) (h : w.toNat < 32) : k0_off2 w 0 = 0 ∧ k0_off2 w 1 = w.toNat * 128 := by
  have := muli_toNat w h
  unfold k0_off2
  exact ⟨rfl, by simpa [Scalar.indexCast] using this⟩

theorem off4_val (w : BitVec 32) (h : w.toNat < 32) : k0_off4 w 0 = 0 ∧ k0_off4 w 1 = w.toNat * 128 := by
  have := muli_toNat w h
  unfold k0_off4
  exact ⟨rfl, by simpa [Scalar.indexCast] using this⟩

/-- The stored block at an entry: the old entry plus 128 products. -/
theorem pay3_apply (a : Vec Ideal S512x128 .bf16) (w : Vec Ideal S1x128x128 .bf16) (y : Vec Ideal S512x128 .f32)
    (p : Fin 512) (j : Fin 128) :
    k0_pay3 a w y (ix2 p j) = y (ix2 p j) + ∑ c : Fin 128, a (ix2 p c) * w (ix3 0 c j) := by
  pointwise [k0_pay3]

/-- A trip adds its gain. -/
theorem step_apply (rw cw : BitVec 32) (hc : k0_chk1 cw) (hr : k0_chk2 rw) (hrw : rw.toNat < 32) (hcw : cw.toNat < 32)
    (k : Fin k0_t1_loop.trips) (xs : Vec Ideal S512x4096 .bf16) (w : Vec Ideal S163x128x128 .bf16) (y : Vec Ideal S512x4096 .f32)
    (p : Fin 512) (q : Fin 4096) :
    step rw cw hc hr k xs w y (ix2 p q) = y (ix2 p q) + gain rw cw k xs w p q := by
  obtain ⟨a0, a1⟩ := off4_val rw hrw
  obtain ⟨b0, b1⟩ := off2_val cw hcw
  obtain ⟨c0, c1, c2⟩ := off3_val k
  unfold step gain
  by_cases e : rw.toNat = q.val / 128
  · have h : ∀ a, k0_off4 rw a ≤ (ix2 p q a).val ∧ (ix2 p q a).val < k0_off4 rw a + S512x128.size a := by
      intro a
      match a with
      | ⟨0, _⟩ => exact (congrArg (fun o => o ≤ p.val ∧ p.val < o + 512) a0).mpr (by omega)
      | ⟨1, _⟩ => exact (congrArg (fun o => o ≤ q.val ∧ q.val < o + 128) a1).mpr (by omega)
    rw [dif_pos h, if_pos e]
    have hl : Rect.unitLocal (s := S512x4096) (off := k0_off4 rw) (size := S512x128.size) (ix2 p q) h
        = (ix2 p (⟨q.val % 128, by omega⟩ : Fin 128) : S512x128.Idx) := by
      funext a
      apply Fin.ext
      match a with
      | ⟨0, _⟩ => exact (congrArg (fun o => p.val - o) a0)
      | ⟨1, _⟩ => exact (congrArg (fun o => q.val - o) a1).trans (by show _ = q.val % 128; omega)
    rw [hl, pay3_apply]
    refine congrArg₂ (· + ·) ?_ (Finset.sum_congr rfl fun c _ => congrArg₂ (· * ·) ?_ ?_)
    · rw [View.ld_apply]
      refine congrArg y (funext fun a => Fin.ext ?_)
      rw [Rect.idx_unit_val]
      match a with
      | ⟨0, _⟩ => exact (congrArg (fun o => o + p.val) a0).trans (Nat.zero_add _)
      | ⟨1, _⟩ => exact (congrArg (fun o => o + q.val % 128) a1).trans (by show _ = q.val; omega)
    · rw [View.ld_apply]
      refine congrArg xs (funext fun a => Fin.ext ?_)
      rw [Rect.idx_unit_val]
      match a with
      | ⟨0, _⟩ => exact (congrArg (fun o => o + p.val) b0).trans (Nat.zero_add _)
      | ⟨1, _⟩ => exact (congrArg (fun o => o + c.val) b1).trans (by show _ = cw.toNat % 32 * 128 + c.val; omega)
    · rw [View.ld_apply]
      refine congrArg w (funext fun a => Fin.ext ?_)
      rw [Rect.idx_unit_val]
      match a with
      | ⟨0, _⟩ => exact (congrArg (fun o => o + 0) c0)
      | ⟨1, _⟩ => exact (congrArg (fun o => o + c.val) c1).trans (Nat.zero_add _)
      | ⟨2, _⟩ => exact (congrArg (fun o => o + q.val % 128) c2).trans (Nat.zero_add _)
  · have h : ¬ ∀ a, k0_off4 rw a ≤ (ix2 p q a).val ∧ (ix2 p q a).val < k0_off4 rw a + S512x128.size a := by
      intro h
      have h1 := (congrArg (fun o => o ≤ q.val ∧ q.val < o + 128) a1).mp (h 1)
      omega
    rw [dif_neg h, if_neg e, add_zero]

/-- The tile after the first `n` trips: the starting entry plus their gains. -/
theorem tile_apply (rw cw : Fin k0_t1_loop.trips → BitVec 32) (hc : ∀ k, k0_chk1 (cw k)) (hr : ∀ k, k0_chk2 (rw k))
    (hrw : ∀ k, (rw k).toNat < 32) (hcw : ∀ k, (cw k).toNat < 32)
    (xs : Vec Ideal S512x4096 .bf16) (w : Vec Ideal S163x128x128 .bf16) (y : Vec Ideal S512x4096 .f32)
    (p : Fin 512) (q : Fin 4096) (n : ℕ) (hn : n ≤ k0_t1_loop.trips) :
    tile rw cw hc hr xs w y n (ix2 p q)
      = y (ix2 p q) + ∑ k : Fin n, gain (rw (k.castLE hn)) (cw (k.castLE hn)) (k.castLE hn) xs w p q := by
  induction n with
  | zero => rw [Fin.sum_univ_zero, add_zero, tile.eq_1]
  | succ n ih =>
    rw [tile_succ rw cw hc hr xs w y ⟨n, hn⟩, step_apply _ _ _ _ (hrw _) (hcw _), ih (Nat.le_of_succ_le hn),
      Fin.sum_univ_castSucc, add_assoc]
    rfl

/-- The tile a grid point leaves: the bias plus the gains of all 163 trips. -/
theorem outTile_apply (rw cw : Fin k0_t1_loop.trips → BitVec 32) (hc : ∀ k, k0_chk1 (cw k)) (hr : ∀ k, k0_chk2 (rw k))
    (hrw : ∀ k, (rw k).toNat < 32) (hcw : ∀ k, (cw k).toNat < 32)
    (x : Vec Ideal S512x4096 .f32) (w : Vec Ideal S163x128x128 .bf16) (b : Vec Ideal S1x4096 .f32)
    (p : Fin 512) (q : Fin 4096) :
    outTile rw cw hc hr x w b (ix2 p q) = b (ix2 0 q) + ∑ k : Fin 163, gain (rw k) (cw k) k x w p q := by
  unfold outTile
  rw [tile_apply rw cw hc hr hrw hcw _ _ _ _ _ _ le_rfl]
  refine congrArg₂ (· + ·) ?_ (Finset.sum_congr rfl fun k _ => ?_)
  · pointwise [k0_pay2]
  · have e : k0_pay1 x = x := by unfold k0_pay1; exact shapeCast_self _ _
    rw [e]; rfl

end Cert.KernelIdeal.Spmm

end
-- ==== Proof.KernelIdeal.HostValue.lean ====
/- What the host hands the launch besides the two tables, over the extended reals: 128 by 128 tiles that hold each block
   at the place its row and column remainders name and zeros elsewhere, and the bias as one row. -/
module

public import proofs.«01_k».proof.Proof.KernelIdeal.TileValue

@[expose] public section

set_option maxRecDepth 16384

noncomputable section

namespace Cert.KernelIdeal.Spmm

open Idealize.ShloMosaic Idealize.ShloMosaic.TcCoe Idealize.ShloMosaic.Tactic
open Cert.KernelIdeal.Gen

/-- Which of the four slots each word of `x` names, as zeros and ones. -/
def slots (x : IVec S163 32) : FVec Ideal S163x4 .bf16 :=
  uitofp .bf16 (cmpi .eq (broadcastInDim S163x4 ![0, 1] bcast_S163x1_S163x4_0_1 (broadcastInDim S163x1 ![0] bcast_S163_S163x1_0 x))
    (broadcastInDim S163x4 ![0, 1] bcast_S1x4_S163x4_0_1 (broadcastInDim S1x4 ![1] bcast_S4_S1x4_1 (iotaInDim S4 32 0))))

/-- The blocks turned over, with the slots of their columns. -/
def strips (w : FVec Ideal S163x32x32 .f32) (k : IVec S163 32) : FVec Ideal S163x4x32x1x32 .bf16 :=
  mulf (broadcastInDim S163x4x32x1x32 ![0, 1, 2, 3, 4] bcast_S163x1x32x1x32_S163x4x32x1x32_0_1_2_3_4
      (broadcastInDim S163x1x32x1x32 ![0, 2, 4] bcast_S163x32x32_S163x1x32x1x32_0_2_4
        (truncf .bf16 (transpose S163x32x32 [0, 2, 1] w transposes_S163x32x32_S163x32x32_0_2_1) bitsLt_bf16_f32)))
    (broadcastInDim S163x4x32x1x32 ![0, 1, 2, 3, 4] bcast_S163x4x1x1x1_S163x4x32x1x32_0_1_2_3_4
      (broadcastInDim S163x4x1x1x1 ![0, 1] bcast_S163x4_S163x4x1x1x1_0_1 (slots (remT k))))

/-- The tiles. -/
def tiles (w : FVec Ideal S163x32x32 .f32) (r k : IVec S163 32) : FVec Ideal S163x128x128 .bf16 :=
  shapeCast S163x128x128
    (mulf (broadcastInDim S163x4x32x4x32 ![0, 1, 2, 3, 4] bcast_S163x4x32x1x32_S163x4x32x4x32_0_1_2_3_4 (strips w k))
      (broadcastInDim S163x4x32x4x32 ![0, 1, 2, 3, 4] bcast_S163x1x1x4x1_S163x4x32x4x32_0_1_2_3_4
        (broadcastInDim S163x1x1x4x1 ![0, 3] bcast_S163x4_S163x1x1x4x1_0_3 (slots (remT r)))))
    shapeCasts_S163x4x32x4x32_S163x128x128

/-- A slot's entry is one where the word names it. -/
theorem slots_apply (x : IVec S163 32) (b : Fin 163) (s : Fin 4) (h : (x (ix1 b)).toNat < 4) :
    slots x (ix2 b s) = if (x (ix1 b)).toNat = s.val then 1 else 0 := by
  have e : IntOp.cmpi .eq (x (ix1 b)) (BitVec.ofNat 32 s.val) = if (x (ix1 b)).toNat = s.val then 1#1 else 0#1 := by
    have h3 : (BitVec.ofNat 32 s.val).toNat = s.val := by rw [BitVec.toNat_ofNat]; omega
    by_cases e : (x (ix1 b)).toNat = s.val
    · rw [if_pos e, show x (ix1 b) = BitVec.ofNat 32 s.val from BitVec.eq_of_toNat_eq (e.trans h3.symm)]
      simp [IntOp.cmpi]
    · rw [if_neg e]
      have : x (ix1 b) ≠ BitVec.ofNat 32 s.val := fun hh => e ((congrArg BitVec.toNat hh).trans h3)
      show BitVec.ofBool (x (ix1 b) == BitVec.ofNat 32 s.val) = 0#1
      rw [beq_eq_false_iff_ne.2 this]; rfl
  unfold slots
  pointwise
  rw [e]
  by_cases e : (x (ix1 b)).toNat = s.val
  · rw [if_pos e, if_pos e]
    show (((1 : ℕ) : ℝ) : EReal) = 1
    simp
  · rw [if_neg e, if_neg e]
    show (((0 : ℕ) : ℝ) : EReal) = 0
    simp

/-- A tile's entry at row slot and column slot. -/
theorem tiles_apply (w : FVec Ideal S163x32x32 .f32) (r k : IVec S163 32) (b : Fin 163) (c j : Fin 128)
    (hr : (r (ix1 b)).toNat < 128) (hk : (k (ix1 b)).toNat < 128) :
    tiles w r k (ix3 b c j)
      = w (ix3 b ⟨j.val % 32, by omega⟩ ⟨c.val % 32, by omega⟩) * (if (k (ix1 b)).toNat % 4 = c.val / 32 then 1 else 0)
        * (if (r (ix1 b)).toNat % 4 = j.val / 32 then 1 else 0) := by
  have e : tiles w r k (ix3 b c j) = w (ix3 b ⟨j.val % 32, by omega⟩ ⟨c.val % 32, by omega⟩)
      * slots (remT k) (ix2 b ⟨c.val / 32, by omega⟩) * slots (remT r) (ix2 b ⟨j.val / 32, by omega⟩) := by
    pointwise [tiles, strips]
  rw [e, slots_apply _ _ _ (by rw [remT_toNat _ _ hk]; omega), slots_apply _ _ _ (by rw [remT_toNat _ _ hr]; omega),
    remT_toNat _ _ hk, remT_toNat _ _ hr]

variable (m : (ℓ : Loc nD τ sig) → Buf (Elt Ideal) ℓ)

set_option maxHeartbeats 1600000 in
/-- The launch's blocks are the tiles of the arguments, -/
theorem V_tiles (c : Dev nD) : (V m c main_call0_v28 : FVec Ideal S163x128x128 .bf16)
    = tiles (m ((c : Thread nD τ).loc main_arg1)) (m ((c : Thread nD τ).loc main_arg2)) (m ((c : Thread nD τ).loc main_arg3)) := by
  unfold V; after_reads_simp; rfl
/-- and its bias the argument's, as one row. -/
theorem V_bias (c : Dev nD) : (V m c main_call0_v29 : FVec Ideal S1x4096 .f32)
    = shapeCast S1x4096 (m ((c : Thread nD τ).loc main_arg4)) shapeCasts_S4096_S1x4096 := by
  unfold V; after_reads_simp; rfl

end Cert.KernelIdeal.Spmm

end
-- ==== Proof.BlockSum.lean ====
/- The equation between one block's part of the sum as the kernel takes it, over the 128 columns of a tile of which the
   block fills a quarter, and as the layer takes it, over the block's own 32 columns. -/
module

public import Idealize.ShloMosaic.PureOps.Ideal

@[expose] public section

noncomputable section

namespace Cert.Spmm

open Idealize.ShloMosaic

/-- A row `f` of the input against column `q mod 128` of a tile, where the tile's row group is that of `q`: the tile holds
    the block's entries `g j i` in the quarter its row `R` and column `K` name and zeros elsewhere, so the sum is the
    block's own, at the block's own row only. -/
theorem block_sum (f : Fin 4096 → EReal) (g : Fin 32 → Fin 32 → EReal) (R K : ℕ) (hR : R < 128) (hK : K < 128) (q : Fin 4096) :
    (if R / 4 = q.val / 128 then
        ∑ c : Fin 128, f ⟨K / 4 % 32 * 128 + c.val, by omega⟩ * (g ⟨q.val % 128 % 32, by omega⟩ ⟨c.val % 32, by omega⟩
          * (if K % 4 = c.val / 32 then 1 else 0) * (if R % 4 = q.val % 128 / 32 then 1 else 0))
      else 0)
    = if R = q.val / 32 then ∑ i : Fin 32, f ⟨K % 128 * 32 + i.val, by omega⟩ * g ⟨q.val % 32, by omega⟩ i else 0 := by
  by_cases e : R = q.val / 32
  · rw [if_pos e, if_pos (by omega)]
    symm
    refine Finset.sum_of_injOn (fun i : Fin 32 => (⟨K % 4 * 32 + i.val, by omega⟩ : Fin 128)) ?_ (fun _ _ => Finset.mem_coe.2 (Finset.mem_univ _)) ?_ ?_
    · intro i _ j _ h
      have h2 := congrArg Fin.val h
      exact Fin.ext (by simpa using h2)
    · intro c _ hc
      have h3 : ¬ K % 4 = c.val / 32 := fun h => hc ⟨⟨c.val % 32, by omega⟩, Finset.mem_coe.2 (Finset.mem_univ _), Fin.ext (by show K % 4 * 32 + c.val % 32 = c.val; omega)⟩
      rw [if_neg h3, mul_zero, zero_mul, mul_zero]
    · intro i _
      have e1 : (⟨K / 4 % 32 * 128 + (K % 4 * 32 + i.val), by omega⟩ : Fin 4096) = ⟨K % 128 * 32 + i.val, by omega⟩ := Fin.ext (by show K / 4 % 32 * 128 + (K % 4 * 32 + i.val) = K % 128 * 32 + i.val; omega)
      have e2 : (⟨(K % 4 * 32 + i.val) % 32, by omega⟩ : Fin 32) = i := Fin.ext (by show (K % 4 * 32 + i.val) % 32 = i.val; omega)
      have e3 : (⟨q.val % 128 % 32, by omega⟩ : Fin 32) = ⟨q.val % 32, by omega⟩ := Fin.ext (by show q.val % 128 % 32 = q.val % 32; omega)
      have e4 : K % 4 = (K % 4 * 32 + i.val) / 32 := by omega
      have e5 : R % 4 = q.val % 128 / 32 := by omega
      show _ = f ⟨K / 4 % 32 * 128 + (K % 4 * 32 + i.val), _⟩ * (g ⟨q.val % 128 % 32, _⟩ ⟨(K % 4 * 32 + i.val) % 32, _⟩
        * (if K % 4 = (K % 4 * 32 + i.val) / 32 then 1 else 0) * (if R % 4 = q.val % 128 / 32 then 1 else 0))
      rw [if_pos e4, if_pos e5, mul_one, mul_one, e1, e2, e3]
  · rw [if_neg e]
    by_cases h : R / 4 = q.val / 128
    · rw [if_pos h]
      refine Finset.sum_eq_zero fun c _ => ?_
      have h3 : ¬ R % 4 = q.val % 128 / 32 := by omega
      rw [if_neg h3, mul_zero, mul_zero]
    · rw [if_neg h]

end Cert.Spmm

end
-- ==== Proof.KernelIdeal.Value.lean ====
/- The array the idealized kernel leaves: its input blocks read off the arguments, a grid point's tile as rows of the
   layer, and the whole array as the layer. -/
module

public import proofs.«01_k».proof.Proof.KernelIdeal.HostValue
public import proofs.«01_k».proof.Proof.BlockSum
public import proofs.«01_k».proof.Proof.Spec
public import Idealize.ShloMosaic.Lib.Pipeline.ValueKit

@[expose] public section

set_option maxRecDepth 16384

noncomputable section

namespace Cert.KernelIdeal.Spmm

open Idealize.ShloMosaic Idealize.ShloMosaic.TcCoe Idealize.ShloMosaic.Tactic
open Cert.KernelIdeal.Gen
open Cert.Spmm (layer blockDot block_sum)

variable (m : (ℓ : Loc nD τ sig) → Buf (Elt Ideal) ℓ)

/-- The five arguments on core `c`. -/
abbrev xA (c : Dev nD) : FVec Ideal S8192x4096 .f32 := m ((c : Thread nD τ).loc main_arg0)
abbrev wA (c : Dev nD) : FVec Ideal S163x32x32 .f32 := m ((c : Thread nD τ).loc main_arg1)
abbrev rA (c : Dev nD) : IVec S163 32 := m ((c : Thread nD τ).loc main_arg2)
abbrev kA (c : Dev nD) : IVec S163 32 := m ((c : Thread nD τ).loc main_arg3)
abbrev bA (c : Dev nD) : FVec Ideal S4096 .f32 := m ((c : Thread nD τ).loc main_arg4)

/-- Where the windows' blocks lie, at each of the sixteen points. -/
theorem places : ∀ t : Fin grid0.N, cc0_transform_0 (grid0.coords t) 0 = t.val ∧ cc0_transform_0 (grid0.coords t) 1 = 0
    ∧ cc0_transform_3 (grid0.coords t) 0 = t.val ∧ cc0_transform_3 (grid0.coords t) 1 = 0 ∧ t.val < 16 := by decide +kernel

/-- One entry of the bias as a row. -/
theorem row_apply (b : FVec Ideal S4096 .f32) (q : Fin 4096) : shapeCast S1x4096 b shapeCasts_S4096_S1x4096 (ix2 0 q) = b (ix1 q) := by
  pointwise

/-- The token tile of point `t` is rows `512 t …` of the input, -/
theorem iblk0_apply (c : Dev nD) (t : Fin (cfgM m).N) (p : Fin 512) (i : Fin 4096) (h : t.val * 512 + p.val < 8192) :
    (iblk m c 0 t : Vec Ideal S512x4096 .f32) (ix2 p i) = xA m c (ix2 ⟨t.val * 512 + p.val, h⟩ i) := by
  obtain ⟨h0, h1, -⟩ := places t
  unfold iblk
  show V m c main_arg0 ((((cfgM m).win 0).blk t).view.emb (ix2 p i)) = _
  rw [V_arg0]
  refine congrArg (xA m c) (funext fun a => Fin.ext ?_)
  blk_simp
  match a with
  | ⟨0, _⟩ =>
    show cc0_transform_0 (grid0.coords t) 0 * 512 + p.val = t.val * 512 + p.val
    rw [h0]
  | ⟨1, _⟩ =>
    show cc0_transform_0 (grid0.coords t) 1 * 4096 + i.val = i.val
    rw [h1, Nat.zero_mul, Nat.zero_add]
/-- the blocks of every point are all the tiles, -/
theorem iblk1_eq (c : Dev nD) (t : Fin (cfgM m).N) :
    (iblk m c 1 t : Vec Ideal S163x128x128 .bf16) = tiles (wA m c) (rA m c) (kA m c) := by
  rw [← V_tiles]
  unfold iblk
  refine funext fun (y : S163x128x128.Idx) => ?_
  show V m c main_call0_v28 ((((cfgM m).win 1).blk t).view.emb y) = _
  refine congrArg (V m c main_call0_v28) (funext fun a => Fin.ext ?_)
  blk_simp
  match a with
  | ⟨0, _⟩ => exact (congrArg (· + (y 0).val) (Nat.zero_mul _)).trans (Nat.zero_add _)
  | ⟨1, _⟩ => exact (congrArg (· + (y 1).val) (Nat.zero_mul _)).trans (Nat.zero_add _)
  | ⟨2, _⟩ => exact (congrArg (· + (y 2).val) (Nat.zero_mul _)).trans (Nat.zero_add _)
/-- and the bias row of every point is the bias. -/
theorem iblk2_apply (c : Dev nD) (t : Fin (cfgM m).N) (q : Fin 4096) :
    (iblk m c 2 t : Vec Ideal S1x4096 .f32) (ix2 0 q) = bA m c (ix1 q) := by
  unfold iblk
  show V m c main_call0_v29 ((((cfgM m).win 2).blk t).view.emb (ix2 0 q)) = _
  have e : (((cfgM m).win 2).blk t).view.emb (ix2 0 q) = (ix2 0 q : S1x4096.Idx) := by
    refine funext fun a => Fin.ext ?_
    blk_simp
    match a with
    | ⟨0, _⟩ => rfl
    | ⟨1, _⟩ => exact (congrArg (· + q.val) (Nat.zero_mul _)).trans (Nat.zero_add _)
  rw [e, V_bias]
  exact row_apply (bA m c) q

variable (hW : Words m)

/-- The tile of point `t` is rows `512 t …` of the layer. -/
theorem outAt_apply (c : Dev nD) (t : Fin (cfgM m).N) (hr : ∀ i : S163.Idx, (rA m c i).toNat < 128)
    (hk : ∀ i : S163.Idx, (kA m c i).toNat < 128) (p : Fin 512) (q : Fin 4096) (h : t.val * 512 + p.val < 8192) :
    outAt m hW c t (ix2 p q) = layer (xA m c) (wA m c) (rA m c) (kA m c) (bA m c) ⟨t.val * 512 + p.val, h⟩ q := by
  obtain rfl : c = 0 := Subsingleton.elim _ _
  have er (k : Fin 163) : (rw m k).toNat = (rA m 0 (ix1 k)).toNat / 4 := by
    have e : bIdx k = ix1 k := by funext a; obtain rfl : a = 0 := Subsingleton.elim _ _; rfl
    exact (congrArg BitVec.toNat (rw_eq m k)).trans ((quotT_toNat _ _ (hr _)).trans (congrArg (fun i => (rA m 0 i).toNat / 4) e))
  have ek (k : Fin 163) : (cw m k).toNat = (kA m 0 (ix1 k)).toNat / 4 := by
    have e : bIdx k = ix1 k := by funext a; obtain rfl : a = 0 := Subsingleton.elim _ _; rfl
    exact (congrArg BitVec.toNat (cw_eq m k)).trans ((quotT_toNat _ _ (hk _)).trans (congrArg (fun i => (kA m 0 i).toNat / 4) e))
  refine (outTile_apply (rw m) (cw m) hW.col hW.row
    (fun k => by rw [er k]; have := hr (ix1 k); omega) (fun k => by rw [ek k]; have := hk (ix1 k); omega) _ _ _ p q).trans ?_
  rw [iblk2_apply, iblk1_eq, add_comm]
  refine congrArg (· + bA m 0 (ix1 q)) (Finset.sum_congr rfl fun b _ => ?_)
  have hs := block_sum (fun i => xA m 0 (ix2 ⟨t.val * 512 + p.val, h⟩ i)) (fun j i => wA m 0 (ix3 b j i))
    _ _ (hr (ix1 b)) (hk (ix1 b)) q
  refine Eq.trans ?_ hs
  unfold gain
  simp only [er b, ek b, iblk0_apply m 0 t p _ h, tiles_apply _ _ _ _ _ _ (hr (ix1 b)) (hk (ix1 b))]

/-- Tables of zeros: the windows' places are the same at every table. -/
abbrev adm0 : (pcfg0 (F := Ideal)).Adm := ⟨fun | 0 => fun _ => 0#32 | 1 => fun _ => 0#32, trivial⟩

/-- The sixteen tiles cover the array. -/
theorem covers0 : ((cfg0 adm0).win 3).Covers := by decide +kernel

/-- The array the pipeline leaves is the layer. -/
theorem array_eq (c : Dev nD) (hr : ∀ i : S163.Idx, (rA m c i).toNat < 128) (hk : ∀ i : S163.Idx, (kA m c i).toNat < 128) :
    (dats m hW 0 c).arrAt 3 (cfgM m).N
      = (fun j : S8192x4096.Idx => layer (xA m c) (wA m c) (rA m c) (kA m c) (bA m c) (j 0) (j 1)) := by
  refine (dats m hW 0 c).arrAt_eq_of_covers 3 _ (show ((cfg0 adm0).win 3).Covers from covers0) fun t hf (y : S512x4096.Idx) => ?_
  obtain ⟨-, -, h0, h1, ht⟩ := places t
  rw [after_3]
  have hp : (y 0).val < 512 := (y 0).isLt
  have he : (((cfgM m).win 3).blk t).view.emb y
      = (ix2 (⟨t.val * 512 + (y 0).val, by omega⟩ : Fin 8192) (y 1) : S8192x4096.Idx) := by
    refine funext fun a => Fin.ext ?_
    blk_simp
    match a with
    | ⟨0, _⟩ =>
      show cc0_transform_3 (grid0.coords t) 0 * 512 + (y 0).val = t.val * 512 + (y 0).val
      rw [h0]
    | ⟨1, _⟩ =>
      show cc0_transform_3 (grid0.coords t) 1 * 4096 + (y 1).val = (y 1).val
      rw [h1, Nat.zero_mul, Nat.zero_add]
  rw [he]
  show outAt m hW c t y = layer _ _ _ _ _ ⟨t.val * 512 + (y 0).val, _⟩ (y 1)
  refine Eq.trans (congrArg (outAt m hW c t) (eq_ix2 y)) ?_
  exact outAt_apply m hW c t hr hk _ _ _

end Cert.KernelIdeal.Spmm

end
-- ==== Proof.Algebraic.lean ====
/- The value claim: over the extended reals the kernel and the reference both end with the layer of their arguments. -/
module

public import proofs.«01_k».proof.Proof.Frames
public import proofs.«01_k».proof.Proof.Reference
public import proofs.«01_k».proof.Proof.KernelIdeal.Value

@[expose] public section

set_option maxRecDepth 16384

noncomputable section

namespace Cert.Spmm

open Idealize.ShloMosaic Idealize.ShloMosaic.TcCoe Idealize.SL.Sem

/-- The layer as an array. -/
def layerT (x : FVec Ideal ⟨2, ![8192, 4096]⟩ .f32) (w : FVec Ideal ⟨3, ![163, 32, 32]⟩ .f32) (r k : IVec ⟨1, ![163]⟩ 32)
    (b : FVec Ideal ⟨1, ![4096]⟩ .f32) : FVec Ideal ⟨2, ![8192, 4096]⟩ .f32 := fun j => layer x w r k b (j 0) (j 1)

section Kernel

open Cert.KernelIdeal Cert.KernelIdeal.Spmm

variable (m : (ℓ : Loc nD τ sig) → Buf (Elt Ideal) ℓ) (ρ : Dev nD → PrngReg)

/-- From block rows and columns in range, the kernel ends with the layer of its arguments, which are unchanged. -/
theorem kernel_value (hr : ∀ c : Dev nD, ∀ i : S163.Idx, (rA m c i).toNat < 128) (hk : ∀ c : Dev nD, ∀ i : S163.Idx, (kA m c i).toNat < 128) :
    θ_run (defs (F := Ideal)) (onTc (τ := τ) (main (F := Ideal))) ⟨m, fun _ => 0, ρ⟩ (fun r => ∀ c : Dev nD,
      r.2.mem ((c.tc : Thread nD τ).loc main_v0) = layerT (xA m c) (wA m c) (rA m c) (kA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hW := words_of m (hr 0) (hk 0)
  (θ_run defs _ _).mono (fun r h c =>
    ⟨((h.1 c).1 3).trans (array_eq m hW c (hr c) (hk c)),
      ((h.1 c).1 0).trans (((dats m hW 0 c).arrAt_in 0 rfl _).trans ((A_eq m hW c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c)⟩)
    (run m ρ hW)

end Kernel

/-- The reference's result is the layer as an array. -/
theorem reference_value (x : FVec Ideal ⟨2, ![8192, 4096]⟩ .f32) (w : FVec Ideal ⟨3, ![163, 32, 32]⟩ .f32) (r k : IVec ⟨1, ![163]⟩ 32)
    (b : FVec Ideal ⟨1, ![4096]⟩ .f32) (hr : ∀ i, (r i).toNat < 128) (hk : ∀ i, (k i).toNat < 128) :
    Cert.ReferenceIdeal.Spmm.result x w r k b = layerT x w r k b := by
  funext j
  exact (congrArg _ (eq_ix2 j)).trans (Cert.ReferenceIdeal.Spmm.result_apply x w r k b (fun _ => hr _) (fun _ => hk _) (j 0) (j 1))

/-- From memories that agree on the arguments, with block rows and columns in range, the two programs end with equal
    results, which are the layer. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hp hm
  have e (c : Dev Cert.KernelIdeal.nD) (i : Cert.KernelIdeal.S163.Idx) := in_range (hFacts := Cert.Pre_in_range.Gen.facts) _ _ _ _ _ (hp c) i
  refine ⟨_, kernel_value m g (fun c i => (e c i).1) (fun c i => (e c i).2), ?_⟩
  refine (θ_run _ _ _).mono (fun r h c => ⟨(h c).1.trans ?_, (h c).2⟩) (Cert.ReferenceIdeal.Value.run m' g')
  obtain ⟨h0, h1, h2, h3, h4⟩ := hm c
  rw [h0, h1, h2, h3, h4]
  exact reference_value _ _ _ _ _ (fun i => (e c i).1) (fun i => (e c i).2)

/-- The reference's run under the precondition too. -/
theorem frame_reference_in_range : Cert.quiescent_ReferenceIdeal_pre_in_range (hReferenceIdeal := Cert.ReferenceIdeal.Gen.facts)
    (hPre_in_range := Cert.Pre_in_range.Gen.facts) :=
  fun m ρ _ => frame_reference m ρ trivial

end Cert.Spmm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_in_range
public import Idealize.ShloMosaic.Adequacy
public import Idealize.ShloMosaic.Init
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.Spmm.frame_kernel, Cert.Spmm.frame_ideal, Cert.Spmm.frame_reference, Cert.Spmm.frame_reference_in_range, trivial, Cert.Spmm.algebraic⟩

end Cert.Proof

end
